-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "score_scale" .f32 0x3DD53B95#32 (((Real.sqrt 192)⁻¹ * (Real.log 2)⁻¹ : ℝ) : EReal)
  ∧ IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S512x2048 : Shape := ⟨2, ![512, 2048]⟩
abbrev S1024x2048 : Shape := ⟨2, ![1024, 2048]⟩
abbrev S3072x2048 : Shape := ⟨2, ![3072, 2048]⟩
abbrev S2048x512 : Shape := ⟨2, ![2048, 512]⟩
abbrev S2048x2048 : Shape := ⟨2, ![2048, 2048]⟩
abbrev S512 : Shape := ⟨1, ![512]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S3072x2048 : S_.BroadcastsInDim S3072x2048 (![] : Fin 0 → Fin S3072x2048.rank)
  reducesTo_S3072x2048_S_d0_1 : S3072x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S2048x512 .f32) (main_arg7 : FVec F S512 .f32) (main_arg8 : IVec S_ 32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_c_10 : IVec S_ 32 := constantI S_ 32 0#32
  let main_v29 : IVec S_ 1 := cmpi .eq main_arg8 main_c_10
  let main_v30 : IVec S_ 1 := andi main_v28 main_v29
  main_v30

def fn {F : FTy → Type} [FloatOps F] (main_arg0 : FVec F S2x2048x2048 .f32) (main_arg1 : FVec F S512x2048 .f32) (main_arg2 : FVec F S1024x2048 .f32) (main_arg3 : FVec F S3072x2048 .f32) (main_arg4 : FVec F S2048x512 .f32) (main_arg5 : FVec F S2048x512 .f32) (main_arg6 : FVec F S2048x2048 .f32) (main_arg7 : FVec F S512 .f32) (main_arg8 : IVec S_ 32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S1024x2048 .f32 := Host.absf main_arg2
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S3072x2048 .f32 := Host.absf main_arg3
  let main_cst_2 : FVec F S_ .f32 := constant S_ .f32 0x7F800000#32
  let main_v10 : FVec F S3072x2048 .f32 := broadcastInDim S3072x2048 ![] bcast_S_S3072x2048 main_cst_2
  let main_v11 : IVec S3072x2048 1 := cmpf .olt main_v9 main_v10
  let main_c_3 : IVec S_ 1 := constantI S_ 1 1#1
  let main_v12 : IVec S_ 1 := (fun x v => Host.reduce IntOp.andi x v reducesTo_S3072x2048_S_d0_1 h_S_) main_v11 main_c_3
  let main_v13 : IVec S_ 1 := andi main_v8 main_v12
  let main_v14 : FVec F S2048x512 .f32 := Host.absf main_arg4
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg5 main_arg7 main_arg8 main_v13 main_v16
-- ==== Kernel.lean ====
abbrev S2x2048x2048 : Shape := ⟨3, ![2, 2048, 2048]⟩
abbrev S512x2048 : Shape := ⟨2, ![512, 2048]⟩
abbrev S1024x2048 : Shape := ⟨2, ![1024, 2048]⟩
abbrev S3072x2048 : Shape := ⟨2, ![3072, 2048]⟩
abbrev S2048x512 : Shape := ⟨2, ![2048, 512]⟩
abbrev S2048x2048 : Shape := ⟨2, ![2048, 2048]⟩
abbrev S512 : Shape := ⟨1, ![512]⟩
abbrev S_ : Shape := ⟨0, ![]⟩
abbrev S4096x2048 : Shape := ⟨2, ![4096, 2048]⟩
abbrev S1 : Shape := ⟨1, ![1]⟩
abbrev S1x512 : Shape := ⟨2, ![1, 512]⟩
abbrev S512x512 : Shape := ⟨2, ![512, 512]⟩
abbrev S512x1 : Shape := ⟨2, ![512, 1]⟩
abbrev S1024x1024 : Shape := ⟨2, ![1024, 1024]⟩
abbrev S2048 : Shape := ⟨1, ![2048]⟩
abbrev S2048x1 : Shape := ⟨2, ![2048, 1]⟩
abbrev S32 : Shape := ⟨1, ![32]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x16x64 : Shape := ⟨4, ![1, 2048, 16, 64]⟩
abbrev S2048x1024 : Shape := ⟨2, ![2048, 1024]⟩
abbrev S4096x1024 : Shape := ⟨2, ![4096, 1024]⟩
abbrev S1024x992 : Shape := ⟨2, ![1024, 992]⟩
abbrev S1024x32 : Shape := ⟨2, ![1024, 32]⟩
abbrev S2048x4096 : Shape := ⟨2, ![2048, 4096]⟩
abbrev S512x128 : Shape := ⟨2, ![512, 128]⟩
abbrev S2048x128 : Shape := ⟨2, ![2048, 128]⟩
abbrev S128x512 : Shape := ⟨2, ![128, 512]⟩
abbrev S2048x192 : Shape := ⟨2, ![2048, 192]⟩
abbrev S512x192 : Shape := ⟨2, ![512, 192]⟩
abbrev S512x64 : Shape := ⟨2, ![512, 64]⟩

abbrev nBuf : Space → Nat
  | .hbm => 49
  | .vmem => 53
  | .smem => 1
  | _ => 0

abbrev bufTy : (tb : Table) → Fin (tcTables nBuf tb) → BufTy
  | .hbm, ⟨0, _⟩ => ⟨S2x2048x2048, .f32⟩
  | .hbm, ⟨1, _⟩ => ⟨S512x2048, .f32⟩
  | .hbm, ⟨2, _⟩ => ⟨S1024x2048, .f32⟩
  | .hbm, ⟨3, _⟩ => ⟨S3072x2048, .f32⟩
  | .hbm, ⟨4, _⟩ => ⟨S2048x512, .f32⟩
  | .hbm, ⟨5, _⟩ => ⟨S2048x512, .f32⟩
  | .hbm, ⟨6, _⟩ => ⟨S2048x2048, .f32⟩
  | .hbm, ⟨7, _⟩ => ⟨S512, .f32⟩
  | .hbm, ⟨8, _⟩ => ⟨S_, .i32⟩
  | .hbm, ⟨9, _⟩ => ⟨S4096x2048, .f32⟩
  | .hbm, ⟨10, _⟩ => ⟨S4096x2048, .bf16⟩
  | .hbm, ⟨11, _⟩ => ⟨S1, .i32⟩
  | .hbm, ⟨12, _⟩ => ⟨S1x512, .f32⟩
  | .hbm, ⟨13, _⟩ => ⟨S4096x2048, .bf16⟩
  | .hbm, ⟨14, _⟩ => ⟨S4096x2048, .bf16⟩
  | .hbm, ⟨15, _⟩ => ⟨S4096x2048, .bf16⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S2048x1, .f32⟩
  | .hbm, ⟨21, _⟩ => ⟨S32, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S1x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x64, .f32⟩
  | .hbm, ⟨37, _⟩ => ⟨S1x2048x1x64, .f32⟩
  | .hbm, ⟨38, _⟩ => ⟨S1x2048x16x64, .f32⟩
  | .hbm, ⟨39, _⟩ => ⟨S2048x1024, .f32⟩
  | .hbm, ⟨40, _⟩ => ⟨S2048x1024, .f32⟩
  | .hbm, ⟨41, _⟩ => ⟨S2048x1024, .bf16⟩
  | .hbm, ⟨42, _⟩ => ⟨S2048x1024, .f32⟩
  | .hbm, ⟨43, _⟩ => ⟨S2048x1024, .bf16⟩
  | .hbm, ⟨44, _⟩ => ⟨S4096x1024, .bf16⟩
  | .hbm, ⟨45, _⟩ => ⟨S4096x1024, .bf16⟩
  | .hbm, ⟨46, _⟩ => ⟨S2048x4096, .bf16⟩
  | .hbm, ⟨47, _⟩ => ⟨S4096x2048, .f32⟩
  | .hbm, ⟨48, _⟩ => ⟨S2x2048x2048, .f32⟩
  | .local _ .vmem, ⟨0, _⟩ => ⟨S1x512, .f32⟩
  | .local _ .vmem, ⟨1, _⟩ => ⟨S512x2048, .bf16⟩
  | .local _ .vmem, ⟨2, _⟩ => ⟨S512x2048, .bf16⟩
  | .local _ .vmem, ⟨3, _⟩ => ⟨S512x2048, .f32⟩
  | .local _ .vmem, ⟨4, _⟩ => ⟨S2048x512, .f32⟩
  | .local _ .vmem, ⟨5, _⟩ => ⟨S2048x512, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x2048, .f32⟩
  | .local _ .vmem, ⟨13, _⟩ => ⟨S1024x2048, .f32⟩
  | .local _ .vmem, ⟨14, _⟩ => ⟨S1024x1024, .bf16⟩
  | .local _ .vmem, ⟨15, _⟩ => ⟨S1024x1024, .bf16⟩
  | .local _ .vmem, ⟨16, _⟩ => ⟨S1024x2048, .bf16⟩
  | .local _ .vmem, ⟨17, _⟩ => ⟨S1024x2048, .bf16⟩
  | .local _ .vmem, ⟨18, _⟩ => ⟨S1024x2048, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x2048, .bf16⟩
  | .local _ .vmem, ⟨26, _⟩ => ⟨S1024x2048, .bf16⟩
  | .local _ .vmem, ⟨27, _⟩ => ⟨S1024x2048, .f32⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .bf16⟩
  | .local _ .vmem, ⟨32, _⟩ => ⟨S1024x1024, .bf16⟩
  | .local _ .vmem, ⟨33, _⟩ => ⟨S1024x1024, .bf16⟩
  | .local _ .vmem, ⟨34, _⟩ => ⟨S512x128, .bf16⟩
  | .local _ .vmem, ⟨35, _⟩ => ⟨S512x128, .bf16⟩
  | .local _ .vmem, ⟨36, _⟩ => ⟨S512x128, .bf16⟩
  | .local _ .vmem, ⟨37, _⟩ => ⟨S512x128, .bf16⟩
  | .local _ .vmem, ⟨38, _⟩ => ⟨S2048x128, .bf16⟩
  | .local _ .vmem, ⟨39, _⟩ => ⟨S2048x128, .bf16⟩
  | .local _ .vmem, ⟨40, _⟩ => ⟨S2048x128, .bf16⟩
  | .local _ .vmem, ⟨41, _⟩ => ⟨S2048x128, .bf16⟩
  | .local _ .vmem, ⟨42, _⟩ => ⟨S2048x128, .bf16⟩
  | .local _ .vmem, ⟨43, _⟩ => ⟨S2048x128, .bf16⟩
  | .local _ .vmem, ⟨44, _⟩ => ⟨S128x512, .bf16⟩
  | .local _ .vmem, ⟨45, _⟩ => ⟨S128x512, .bf16⟩
  | .local _ .vmem, ⟨46, _⟩ => ⟨S2048x192, .bf16⟩
  | .local _ .vmem, ⟨47, _⟩ => ⟨S512x192, .bf16⟩
  | .local _ .vmem, ⟨48, _⟩ => ⟨S2048x512, .bf16⟩
  | .local _ .vmem, ⟨49, _⟩ => ⟨S2048x512, .bf16⟩
  | .local _ .vmem, ⟨50, _⟩ => ⟨S2048x2048, .f32⟩
  | .local _ .vmem, ⟨51, _⟩ => ⟨S512x2048, .f32⟩
  | .local _ .vmem, ⟨52, _⟩ => ⟨S512x2048, .f32⟩
  | .local _ .smem, ⟨0, _⟩ => ⟨S1, .i32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .smem, ⟨0, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg6_1 : Ref sig .tc := ⟨.vmem, 45, rfl⟩
abbrev cc4_scratch0 : Ref sig .tc := ⟨.vmem, 46, rfl⟩
abbrev cc4_scratch1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg2_1 : Ref sig .tc := ⟨.vmem, 52, rfl⟩
abbrev cc4_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc4_sem0_0 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem3_1 : DmaSem sig := 40
abbrev cc4_sem4_0 : DmaSem sig := 41
abbrev cc4_sem4_1 : DmaSem sig := 42
abbrev cc4_sem5_0 : DmaSem sig := 43
abbrev cc4_sem5_1 : DmaSem sig := 44
abbrev cc4_sem6_0 : DmaSem sig := 45
abbrev cc4_sem6_1 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem2_1 : DmaSem sig := 51

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_3 (i : grid2.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc3_transform_2 (i : grid3.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc3_transform_3 (i : grid3.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨2, ![32, 4], ![false, false]⟩

def k4_cond2 (i : grid4.Coords) : BitVec 1 :=
  let arg1 : BitVec 32 := BitVec.ofNat 32 (i 1).val
  let c0_i32_13 : BitVec 32 := 0#32
  let v28 : BitVec 1 := Scalar.cmpi .eq arg1 c0_i32_13
  let v29 : BitVec 32 := Scalar.extui v28
  let c0_i32_14 : BitVec 32 := 0#32
  let v30 : BitVec 1 := Scalar.cmpi .ne v29 c0_i32_14
  v30

def k4_cond3 (i : grid4.Coords) : BitVec 1 :=
  let arg1 : BitVec 32 := BitVec.ofNat 32 (i 1).val
  let c1_i32_15 : BitVec 32 := 1#32
  let v31 : BitVec 1 := Scalar.cmpi .eq arg1 c1_i32_15
  let v32 : BitVec 32 := Scalar.extui v31
  let c0_i32_16 : BitVec 32 := 0#32
  let v33 : BitVec 1 := Scalar.cmpi .ne v32 c0_i32_16
  v33

def k4_cond4 (i : grid4.Coords) : BitVec 1 :=
  let arg1 : BitVec 32 := BitVec.ofNat 32 (i 1).val
  let c2_i32_17 : BitVec 32 := 2#32
  let v34 : BitVec 1 := Scalar.cmpi .eq arg1 c2_i32_17
  let v35 : BitVec 32 := Scalar.extui v34
  let c0_i32_18 : BitVec 32 := 0#32
  let v36 : BitVec 1 := Scalar.cmpi .ne v35 c0_i32_18
  v36

def k4_cond5 (i : grid4.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_19 : BitVec 32 := 0#32
  let v39 : BitVec 1 := Scalar.cmpi .ne v38 c0_i32_19
  v39

def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_1 (i : grid4.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.muli v16 c4_i32
  let v18 : BitVec 32 := Scalar.addi v17 arg1
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc4_transform_2 (i : grid4.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.muli v16 c4_i32
  let v18 : BitVec 32 := Scalar.addi v17 arg1
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c2_i32 : BitVec 32 := 2#32
  let v29 : BitVec 32 := Scalar.divsi v28 c2_i32
  let c0_i32_10 : BitVec 32 := 0#32
  let v30 : BitVec 1 := Scalar.cmpi .sgt v28 c0_i32_10
  let v31 : BitVec 32 := Scalar.extui v30
  let c0_i32_11 : BitVec 32 := 0#32
  let v32 : BitVec 1 := Scalar.cmpi .slt v28 c0_i32_11
  let v33 : BitVec 32 := Scalar.extui v32
  let v34 : BitVec 32 := Scalar.subi v31 v33
  let c0_i32_12 : BitVec 32 := 0#32
  let v35 : BitVec 1 := Scalar.cmpi .sgt c2_i32 c0_i32_12
  let v36 : BitVec 32 := Scalar.extui v35
  let c0_i32_13 : BitVec 32 := 0#32
  let v37 : BitVec 1 := Scalar.cmpi .slt c2_i32 c0_i32_13
  let v38 : BitVec 32 := Scalar.extui v37
  let v39 : BitVec 32 := Scalar.subi v36 v38
  let v40 : BitVec 1 := Scalar.cmpi .ne v34 v39
  let v41 : BitVec 32 := Scalar.remsi v28 c2_i32
  let c0_i32_14 : BitVec 32 := 0#32
  let v42 : BitVec 1 := Scalar.cmpi .ne v41 c0_i32_14
  let v43 : BitVec 1 := Scalar.andi v40 v42
  let c1_i32_15 : BitVec 32 := 1#32
  let v44 : BitVec 32 := Scalar.subi v29 c1_i32_15
  let v45 : BitVec 32 := Scalar.select v43 v44 v29
  let c0_i32_16 : BitVec 32 := 0#32
  ![v18.toNat, v45.toNat]

def cc4_transform_3 (i : grid4.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.divsi v26 c2_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c2_i32 c0_i32_12
  let v34 : BitVec 32 := Scalar.extui v33
  let c0_i32_13 : BitVec 32 := 0#32
  let v35 : BitVec 1 := Scalar.cmpi .slt c2_i32 c0_i32_13
  let v36 : BitVec 32 := Scalar.extui v35
  let v37 : BitVec 32 := Scalar.subi v34 v36
  let v38 : BitVec 1 := Scalar.cmpi .ne v32 v37
  let v39 : BitVec 32 := Scalar.remsi v26 c2_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c0_i32_16 : BitVec 32 := 0#32
  ![v16.toNat, v43.toNat]

def cc4_transform_4 (i : grid4.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc4_transform_5 (i : grid4.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc4_transform_6 (i : grid4.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c4_i32 : BitVec 32 := 4#32
  let v27 : BitVec 32 := Scalar.muli v26 c4_i32
  let v28 : BitVec 32 := Scalar.addi v27 arg1
  let c0_i32_10 : BitVec 32 := 0#32
  ![v9.toNat, v28.toNat]

abbrev stage4_0 : Fin 1 → Memref sig .tc .smem S1 .i32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 2 → Memref sig .tc .vmem S512x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S512x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S2048x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S2048x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S2048x128 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev stage4_6 : Fin 2 → Memref sig .tc .vmem S128x512 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]
-- ==== KernelIdeal.lean ====
variable {F : FTy → Type} [FloatOps F] [Named F]
def κ : String → Option EReal := fun
  | "mask" => some ⊥
  | "score_scale" => some (((Real.sqrt 192)⁻¹ * (Real.log 2)⁻¹ : ℝ) : EReal)
  | _ => none
-- ==== ReferenceIdeal.lean ====
abbrev S2x2048x2048 : Shape := ⟨3, ![2, 2048, 2048]⟩
abbrev S512x2048 : Shape := ⟨2, ![512, 2048]⟩
abbrev S1024x2048 : Shape := ⟨2, ![1024, 2048]⟩
abbrev S3072x2048 : Shape := ⟨2, ![3072, 2048]⟩
abbrev S2048x512 : Shape := ⟨2, ![2048, 512]⟩
abbrev S2048x2048 : Shape := ⟨2, ![2048, 2048]⟩
abbrev S512 : Shape := ⟨1, ![512]⟩
abbrev S_ : Shape := ⟨0, ![]⟩
abbrev S2x2048x512 : Shape := ⟨3, ![2, 2048, 512]⟩
abbrev S2x2048 : Shape := ⟨2, ![2, 2048]⟩
abbrev S2x2048x1 : Shape := ⟨3, ![2, 2048, 1]⟩
abbrev S1x1x512 : Shape := ⟨3, ![1, 1, 512]⟩
abbrev S2048x1024 : Shape := ⟨2, ![2048, 1024]⟩
abbrev S2x2048x1024 : Shape := ⟨3, ![2, 2048, 1024]⟩
abbrev S2x2048x16x64 : Shape := ⟨4, ![2, 2048, 16, 64]⟩
abbrev S2x16x2048x64 : Shape := ⟨4, ![2, 16, 2048, 64]⟩
abbrev S2048x3072 : Shape := ⟨2, ![2048, 3072]⟩
abbrev S2x2048x3072 : Shape := ⟨3, ![2, 2048, 3072]⟩
abbrev S2x2048x16x128 : Shape := ⟨4, ![2, 2048, 16, 128]⟩
abbrev S2x16x2048x128 : Shape := ⟨4, ![2, 16, 2048, 128]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2x16x2048x32 : Shape := ⟨4, ![2, 16, 2048, 32]⟩
abbrev S1x1x2048x64 : Shape := ⟨4, ![1, 1, 2048, 64]⟩
abbrev S16x128x512 : Shape := ⟨3, ![16, 128, 512]⟩
abbrev S16x512x2x2048 : Shape := ⟨4, ![16, 512, 2, 2048]⟩
abbrev S2x16x2048x512 : Shape := ⟨4, ![2, 16, 2048, 512]⟩
abbrev S2x16x2048x2048 : Shape := ⟨4, ![2, 16, 2048, 2048]⟩
abbrev S1x2048 : Shape := ⟨2, ![1, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S16x128x2x2048 : Shape := ⟨4, ![16, 128, 2, 2048]⟩

abbrev nBuf : Space → Nat
  | .hbm => 166
  | .vmem => 0
  | .smem => 0
  | _ => 0

abbrev hbmTy0_0 (i : Nat) : BufTy := match i % 128 with
  | 0 => ⟨S2x2048x2048, .f32⟩
  | 1 => ⟨S512x2048, .f32⟩
  | 2 => ⟨S1024x2048, .f32⟩
  | 3 => ⟨S3072x2048, .f32⟩
  | 4 => ⟨S2048x512, .f32⟩
  | 5 => ⟨S2048x512, .f32⟩
  | 6 => ⟨S2048x2048, .f32⟩
  | 7 => ⟨S512, .f32⟩
  | 8 => ⟨S_, .i32⟩
  | 9 => ⟨S2048x512, .f32⟩
  | 10 => ⟨S2x2048x512, .f32⟩
  | 11 => ⟨S2x2048x512, .f32⟩
  | 12 => ⟨S_, .f32⟩
  | 13 => ⟨S2x2048, .f32⟩
  | 14 => ⟨S2x2048x1, .f32⟩
  | 15 => ⟨S_, .f32⟩
  | 16 => ⟨S2x2048x1, .f32⟩
  | 17 => ⟨S2x2048x1, .f32⟩
  | 18 => ⟨S_, .f32⟩
  | 19 => ⟨S2x2048x1, .f32⟩
  | 20 => ⟨S2x2048x1, .f32⟩
  | 21 => ⟨S2x2048x1, .f32⟩
  | 22 => ⟨S2x2048x512, .f32⟩
  | 23 => ⟨S2x2048x512, .f32⟩
  | 24 => ⟨S1x1x512, .f32⟩
  | 25 => ⟨S2x2048x512, .f32⟩
  | 26 => ⟨S2x2048x512, .f32⟩
  | 27 => ⟨S2048x1024, .f32⟩
  | 28 => ⟨S2x2048x1024, .f32⟩
  | 29 => ⟨S2x2048x16x64, .f32⟩
  | 30 => ⟨S2x16x2048x64, .f32⟩
  | 31 => ⟨S2048x3072, .f32⟩
  | 32 => ⟨S2x2048x3072, .f32⟩
  | 33 => ⟨S2x2048x2048, .f32⟩
  | 34 => ⟨S2x2048x16x128, .f32⟩
  | 35 => ⟨S2x16x2048x128, .f32⟩
  | 36 => ⟨S2x2048x1024, .f32⟩
  | 37 => ⟨S2x2048x16x64, .f32⟩
  | 38 => ⟨S2x16x2048x64, .f32⟩
  | 39 => ⟨S2048, .i32⟩
  | 40 => ⟨S2048, .i32⟩
  | 41 => ⟨S2048, .i32⟩
  | 42 => ⟨S2048, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S2048x1, .f32⟩
  | 60 => ⟨S1x32, .f32⟩
  | 61 => ⟨S2048x32, .f32⟩
  | 62 => ⟨S2048x32, .f32⟩
  | 63 => ⟨S2048x32, .f32⟩
  | 64 => ⟨S2048x64, .f32⟩
  | 65 => ⟨S2048x64, .f32⟩
  | 66 => ⟨S2048x64, .f32⟩
  | 67 => ⟨S2048x64, .f32⟩
  | 68 => ⟨S2x16x2048x32, .f32⟩
  | 69 => ⟨S2x16x2048x32, .f32⟩
  | 70 => ⟨S2x16x2048x32, .f32⟩
  | 71 => ⟨S2x16x2048x64, .f32⟩
  | 72 => ⟨S1x1x2048x64, .f32⟩
  | 73 => ⟨S2x16x2048x64, .f32⟩
  | 74 => ⟨S2x16x2048x64, .f32⟩
  | 75 => ⟨S1x1x2048x64, .f32⟩
  | 76 => ⟨S2x16x2048x64, .f32⟩
  | 77 => ⟨S2x16x2048x64, .f32⟩
  | 78 => ⟨S2x16x2048x64, .f32⟩
  | 79 => ⟨S2048, .i32⟩
  | 80 => ⟨S2048, .i32⟩
  | 81 => ⟨S2048, .i32⟩
  | 82 => ⟨S2048, .f32⟩
  | 83 => ⟨S32, .f32⟩
  | 84 => ⟨S_, .f32⟩
  | 85 => ⟨S32, .f32⟩
  | 86 => ⟨S32, .f32⟩
  | 87 => ⟨S_, .f32⟩
  | 88 => ⟨S32, .f32⟩
  | 89 => ⟨S32, .f32⟩
  | 90 => ⟨S_, .f32⟩
  | 91 => ⟨S32, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S2048x1, .f32⟩
  | 100 => ⟨S1x32, .f32⟩
  | 101 => ⟨S2048x32, .f32⟩
  | 102 => ⟨S2048x32, .f32⟩
  | 103 => ⟨S2048x32, .f32⟩
  | 104 => ⟨S2048x64, .f32⟩
  | 105 => ⟨S2048x64, .f32⟩
  | 106 => ⟨S2048x64, .f32⟩
  | 107 => ⟨S2048x64, .f32⟩
  | 108 => ⟨S2x16x2048x32, .f32⟩
  | 109 => ⟨S2x16x2048x32, .f32⟩
  | 110 => ⟨S2x16x2048x32, .f32⟩
  | 111 => ⟨S2x16x2048x64, .f32⟩
  | 112 => ⟨S1x1x2048x64, .f32⟩
  | 113 => ⟨S2x16x2048x64, .f32⟩
  | 114 => ⟨S2x16x2048x64, .f32⟩
  | 115 => ⟨S1x1x2048x64, .f32⟩
  | 116 => ⟨S2x16x2048x64, .f32⟩
  | 117 => ⟨S2x16x2048x64, .f32⟩
  | 118 => ⟨S2x16x2048x64, .f32⟩
  | 119 => ⟨S16x128x512, .f32⟩
  | 120 => ⟨S16x512x2x2048, .f32⟩
  | 121 => ⟨S2x16x2048x512, .f32⟩
  | 122 => ⟨S2x16x2048x2048, .f32⟩
  | 123 => ⟨S2x16x2048x2048, .f32⟩
  | 124 => ⟨S2x16x2048x2048, .f32⟩
  | 125 => ⟨S_, .f32⟩
  | 126 => ⟨S_, .f32⟩
  | 127 => ⟨S2x16x2048x2048, .f32⟩
  | _ => ⟨S2x2048x2048, .f32⟩

abbrev hbmTy0_1 (i : Nat) : BufTy := match i % 128 with
  | 0 => ⟨S2x16x2048x2048, .f32⟩
  | 1 => ⟨S2048, .i32⟩
  | 2 => ⟨S1x2048, .i32⟩
  | 3 => ⟨S2048, .i32⟩
  | 4 => ⟨S2048x1, .i32⟩
  | 5 => ⟨S2048x1, .i32⟩
  | 6 => ⟨S2048x1, .i32⟩
  | 7 => ⟨S2048x2048, .i32⟩
  | 8 => ⟨S2048x2048, .i32⟩
  | 9 => ⟨S2048x2048, .i1⟩
  | 10 => ⟨S1x1x2048x2048, .i1⟩
  | 11 => ⟨S_, .f32⟩
  | 12 => ⟨S_, .f32⟩
  | 13 => ⟨S2x16x2048x2048, .i1⟩
  | 14 => ⟨S2x16x2048x2048, .f32⟩
  | 15 => ⟨S2x16x2048x2048, .f32⟩
  | 16 => ⟨S_, .f32⟩
  | 17 => ⟨S2x16x2048, .f32⟩
  | 18 => ⟨S_, .f32⟩
  | 19 => ⟨S2x16x2048, .f32⟩
  | 20 => ⟨S2x16x2048, .f32⟩
  | 21 => ⟨S2x16x2048x1, .f32⟩
  | 22 => ⟨S2x16x2048x2048, .f32⟩
  | 23 => ⟨S2x16x2048x2048, .f32⟩
  | 24 => ⟨S2x16x2048x2048, .f32⟩
  | 25 => ⟨S_, .f32⟩
  | 26 => ⟨S2x16x2048, .f32⟩
  | 27 => ⟨S2x16x2048x1, .f32⟩
  | 28 => ⟨S2x16x2048x2048, .f32⟩
  | 29 => ⟨S2x16x2048x2048, .f32⟩
  | 30 => ⟨S2x16x2048x512, .f32⟩
  | 31 => ⟨S16x128x512, .f32⟩
  | 32 => ⟨S16x128x2x2048, .f32⟩
  | 33 => ⟨S2x16x2048x128, .f32⟩
  | 34 => ⟨S2x2048x16x128, .f32⟩
  | 35 => ⟨S2x2048x2048, .f32⟩
  | 36 => ⟨S2048x2048, .f32⟩
  | 37 => ⟨S2x2048x2048, .f32⟩
  | _ => ⟨S2x2048x2048, .f32⟩

abbrev hbmTy (i : Nat) : BufTy := match i / 128 with
  | 0 => hbmTy0_0 i
  | 1 => hbmTy0_1 i
  | _ => ⟨S2x2048x2048, .f32⟩

abbrev bufTy : (tb : Table) → Fin (tcTables nBuf tb) → BufTy
  | .hbm, ⟨i, _⟩ => hbmTy i
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_7 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_v70 : Ref sig .tc := ⟨.hbm, 89, rfl⟩
abbrev main_cst_9 : Ref sig .tc := ⟨.hbm, 90, rfl⟩
abbrev main_v71 : Ref sig .tc := ⟨.hbm, 91, rfl⟩
abbrev main_v72 : Ref sig .tc := ⟨.hbm, 92, rfl⟩
abbrev main_cst_10 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_cst_12 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_cst_13 : Ref sig .tc := ⟨.hbm, 139, rfl⟩
abbrev main_call0_v0 : Ref sig .tc := ⟨.hbm, 140, rfl⟩
abbrev main_call0_v1 : Ref sig .tc := ⟨.hbm, 141, rfl⟩
abbrev main_call0_v2 : Ref sig .tc := ⟨.hbm, 142, rfl⟩
abbrev main_v116 : Ref sig .tc := ⟨.hbm, 143, rfl⟩
abbrev main_cst_14 : Ref sig .tc := ⟨.hbm, 144, rfl⟩
abbrev main_v117 : Ref sig .tc := ⟨.hbm, 145, rfl⟩
abbrev main_cst_15 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_16 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩

abbrev nD : Nat := 1
abbrev τ : Topo := Topo.v7x

variable {F : FTy → Type} [FloatOps F]
-- ==== Proof.KernelIdeal.Region0.lean ====
/-
  Region 0 of the program, the compressed-KV kernel (RMS norm, the content keys and the values): its body run, and the contract of its pipeline.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The block window `w` stages at point `t`: the part of its array the index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- At every point the staging buffer of this input window holds the window's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- At every point the staging buffer of this input window holds the window's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- At every point the staging buffer of this input window holds the window's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- At every point the staging buffer of this input window holds the window's block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- At every point the staging buffer of this input window holds the window's block. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x2048 := Rect.unit (s := S512x2048) ![0, 0] S512x2048.size inb_S512x2048_S512x2048_0_0
abbrev r0_1 : Rect S1x512 := Rect.unit (s := S1x512) ![0, 0] S1x512.size inb_S1x512_S1x512_0_0
abbrev r0_2 : Rect S2048x512 := Rect.unit (s := S2048x512) ![0, 0] S2048x512.size inb_S2048x512_S2048x512_0_0

/-- What the body leaves in this output window's staging buffer, as a function of the input blocks. -/
def out0_5 (x0 : Vec F S1x512 .f32) (x1 : Vec F S512x2048 .bf16) (x2 : Vec F S512x2048 .f32) (x3 : Vec F S2048x512 .f32) (x4 : Vec F S2048x512 .f32) : Vec F S512x2048 .bf16 :=
  View.canon [⟨r0_0, k0_pay2 (View.ld x1 r0_0) (View.ld x2 r0_0) (View.ld x0 r0_1) (View.ld x3 r0_2)⟩]

/-- The one store fills the whole buffer. -/
theorem cover0_5 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-- What the body leaves in this output window's staging buffer, as a function of the input blocks. -/
def out0_6 (x0 : Vec F S1x512 .f32) (x1 : Vec F S512x2048 .bf16) (x2 : Vec F S512x2048 .f32) (x3 : Vec F S2048x512 .f32) (x4 : Vec F S2048x512 .f32) : Vec F S512x2048 .bf16 :=
  View.canon [⟨r0_0, k0_pay3 (View.ld x1 r0_0) (View.ld x2 r0_0) (View.ld x0 r0_1) (View.ld x4 r0_2)⟩]

/-- The one store fills the whole buffer. -/
theorem cover0_6 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

set_option maxHeartbeats 1000000 in
/-- The kernel body, run on whole staging buffers: the inputs stay, each output is overwritten by the function above. -/
theorem sound_kernel0 (c : Dev nD) (E : Set ℕ) (i : grid0.Coords) (arg1 : Memref sig .tc .vmem S1x512 .f32) (harg1 : arg1.IsWhole) (arg2 : Memref sig .tc .vmem S512x2048 .bf16) (harg2 : arg2.IsWhole) (arg3 : Memref sig .tc .vmem S512x2048 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S512x2048 .bf16) (harg6 : arg6.IsWhole) (arg7 : Memref sig .tc .vmem S512x2048 .bf16) (harg7 : arg7.IsWhole)
    (x0 : Vec F S1x512 .f32) (x1 : Vec F S512x2048 .bf16) (x2 : Vec F S512x2048 .f32) (x3 : Vec F S2048x512 .f32) (x4 : Vec F S2048x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0_mla_kv i arg1 harg1 arg2 harg2 arg3 harg3 arg4 harg4 arg5 harg5 arg6 harg6 arg7 harg7) K := by
  simp only [cc0_mla_kv_eq_skeleton]; unfold cc0_mla_kv_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-- The proof data of this region: arrays as found, each output buffer overwritten at every point, nothing else touched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

/-- The inputs' staging buffers hold their blocks when the body starts. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The state in which the pipeline calls the body at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- The state the body must return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body meets its contract at every point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The table entry of the body is the body. -/
theorem defs₀_row0 (t : Fin cfg0.N) :
    defs₀ (F := F) .tc cfg0.body (cfg0.bodyArgs t (cfg0.slots t)) = bodyAt0 t := by
  unfold defs₀; rw [Defs.onTc_tc]

/-- The contract in the form the pipeline library asks for. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Own

end
-- ==== Proof.KernelIdeal.Region1.lean ====
/-
  Region 1 of the program, the content query projection: its body run, and the contract of its pipeline.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The block window `w` stages at point `t`: the part of its array the index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- At every point the staging buffer of this input window holds the window's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- At every point the staging buffer of this input window holds the window's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1024x2048 := Rect.unit (s := S1024x2048) ![0, 0] S1024x2048.size inb_S1024x2048_S1024x2048_0_0
abbrev r1_1 : Rect S1024x1024 := Rect.unit (s := S1024x1024) ![0, 0] S1024x1024.size inb_S1024x1024_S1024x1024_0_0

/-- What the body leaves in this output window's staging buffer, as a function of the input blocks. -/
def out1_2 (x0 : Vec F S1024x2048 .bf16) (x1 : Vec F S1024x2048 .f32) : Vec F S1024x1024 .bf16 :=
  View.canon [⟨r1_1, k1_pay1 (View.ld x1 r1_0) (View.ld x0 r1_0)⟩]

/-- The one store fills the whole buffer. -/
theorem cover1_2 (p0 : Vec F S1024x1024 .bf16) (y : S1024x1024.Idx) :
    ∃ pc ∈ ([⟨r1_1, p0⟩] : List (View.Piece (Elt F) S1024x1024 .bf16)), y ∈ pc.1.set :=
  View.cover_of_tiled [⟨r1_1, p0⟩] S1024x1024.size (by rfl) y

set_option maxHeartbeats 1000000 in
/-- The kernel body, run on whole staging buffers: the inputs stay, each output is overwritten by the function above. -/
theorem sound_kernel1 (c : Dev nD) (E : Set ℕ) (i : grid1.Coords) (arg2 : Memref sig .tc .vmem S1024x2048 .bf16) (harg2 : arg2.IsWhole) (arg3 : Memref sig .tc .vmem S1024x2048 .f32) (harg3 : arg3.IsWhole) (arg4 : Memref sig .tc .vmem S1024x1024 .bf16) (harg4 : arg4.IsWhole)
    (x0 : Vec F S1024x2048 .bf16) (x1 : Vec F S1024x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_mla_qc i arg2 harg2 arg3 harg3 arg4 harg4) K := by
  simp only [cc1_mla_qc_eq_skeleton]; unfold cc1_mla_qc_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this region: arrays as found, each output buffer overwritten at every point, nothing else touched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- The inputs' staging buffers hold their blocks when the body starts. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The state in which the pipeline calls the body at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- The state the body must return. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body meets its contract at every point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The table entry of the body is the body. -/
theorem defs₀_row1 (t : Fin cfg1.N) :
    defs₀ (F := F) .tc cfg1.body (cfg1.bodyArgs t (cfg1.slots t)) = bodyAt1 t := by
  unfold defs₀; rw [Defs.onTc_tc]

/-- The contract in the form the pipeline library asks for. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Own

end
-- ==== Proof.KernelIdeal.Region2.lean ====
/-
  Region 2 of the program, the rotary key projection: its body run, and the contract of its pipeline.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The block window `w` stages at point `t`: the part of its array the index map selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- At every point the staging buffer of this input window holds the window's block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- At every point the staging buffer of this input window holds the window's block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- At every point the staging buffer of this input window holds the window's block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- At every point the staging buffer of this input window holds the window's block. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1024x2048 := Rect.unit (s := S1024x2048) ![0, 0] S1024x2048.size inb_S1024x2048_S1024x2048_0_0
abbrev r2_1 : Rect S1024x1024 := Rect.unit (s := S1024x1024) ![0, 0] S1024x1024.size inb_S1024x1024_S1024x1024_0_0

/-- What the body leaves in this output window's staging buffer, as a function of the input blocks. -/
def out2_4 (x0 : Vec F S1024x2048 .bf16) (x1 : Vec F S1024x2048 .f32) (x2 : Vec F S1024x1024 .bf16) (x3 : Vec F S1024x1024 .bf16) : Vec F S1024x1024 .bf16 :=
  View.canon [⟨r2_1, k2_pay1 (k2_pay2 (View.ld x0 r2_0) (View.ld x1 r2_0)) (k2_pay3 (View.ld x2 r2_1)) (k2_pay4 (View.ld x3 r2_1)) (k2_pay5 (View.ld x0 r2_0) (View.ld x1 r2_0))⟩]

/-- The one store fills the whole buffer. -/
theorem cover2_4 (p0 : Vec F S1024x1024 .bf16) (y : S1024x1024.Idx) :
    ∃ pc ∈ ([⟨r2_1, p0⟩] : List (View.Piece (Elt F) S1024x1024 .bf16)), y ∈ pc.1.set :=
  View.cover_of_tiled [⟨r2_1, p0⟩] S1024x1024.size (by rfl) y

set_option maxHeartbeats 1000000 in
/-- The kernel body, run on whole staging buffers: the inputs stay, each output is overwritten by the function above. -/
theorem sound_kernel2 (c : Dev nD) (E : Set ℕ) (i : grid2.Coords) (arg1 : Memref sig .tc .vmem S1024x2048 .bf16) (harg1 : arg1.IsWhole) (arg2 : Memref sig .tc .vmem S1024x2048 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole)
    (x0 : Vec F S1024x2048 .bf16) (x1 : Vec F S1024x2048 .f32) (x2 : Vec F S1024x1024 .bf16) (x3 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2_mla_krope i arg1 harg1 arg2 harg2 arg3 harg3 arg4 harg4 arg5 harg5) K := by
  simp only [cc2_mla_krope_eq_skeleton]; unfold cc2_mla_krope_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of this region: arrays as found, each output buffer overwritten at every point, nothing else touched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- The inputs' staging buffers hold their blocks when the body starts. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- The state in which the pipeline calls the body at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- The state the body must return. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body meets its contract at every point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The table entry of the body is the body. -/
theorem defs₀_row2 (t : Fin cfg2.N) :
    defs₀ (F := F) .tc cfg2.body (cfg2.bodyArgs t (cfg2.slots t)) = bodyAt2 t := by
  unfold defs₀; rw [Defs.onTc_tc]

/-- The contract in the form the pipeline library asks for. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Own

end
-- ==== Proof.KernelIdeal.Region3.lean ====
/-
  Region 3 of the program, the rotary query projection: its body run, and the contract of its pipeline.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The block window `w` stages at point `t`: the part of its array the index map selects. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- At every point the staging buffer of this input window holds the window's block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- At every point the staging buffer of this input window holds the window's block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- At every point the staging buffer of this input window holds the window's block. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- At every point the staging buffer of this input window holds the window's block. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S1024x2048 := Rect.unit (s := S1024x2048) ![0, 0] S1024x2048.size inb_S1024x2048_S1024x2048_0_0
abbrev r3_1 : Rect S1024x1024 := Rect.unit (s := S1024x1024) ![0, 0] S1024x1024.size inb_S1024x1024_S1024x1024_0_0

/-- What the body leaves in this output window's staging buffer, as a function of the input blocks. -/
def out3_4 (x0 : Vec F S1024x2048 .bf16) (x1 : Vec F S1024x2048 .f32) (x2 : Vec F S1024x1024 .bf16) (x3 : Vec F S1024x1024 .bf16) : Vec F S1024x1024 .bf16 :=
  View.canon [⟨r3_1, k3_pay1 (k3_pay2 (View.ld x0 r3_0) (View.ld x1 r3_0) (View.ld x2 r3_1) (View.ld x3 r3_1))⟩]

/-- The one store fills the whole buffer. -/
theorem cover3_4 (p0 : Vec F S1024x1024 .bf16) (y : S1024x1024.Idx) :
    ∃ pc ∈ ([⟨r3_1, p0⟩] : List (View.Piece (Elt F) S1024x1024 .bf16)), y ∈ pc.1.set :=
  View.cover_of_tiled [⟨r3_1, p0⟩] S1024x1024.size (by rfl) y

set_option maxHeartbeats 1000000 in
/-- The kernel body, run on whole staging buffers: the inputs stay, each output is overwritten by the function above. -/
theorem sound_kernel3 (c : Dev nD) (E : Set ℕ) (i : grid3.Coords) (arg1 : Memref sig .tc .vmem S1024x2048 .bf16) (harg1 : arg1.IsWhole) (arg2 : Memref sig .tc .vmem S1024x2048 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole)
    (x0 : Vec F S1024x2048 .bf16) (x1 : Vec F S1024x2048 .f32) (x2 : Vec F S1024x1024 .bf16) (x3 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3_mla_qrope i arg1 harg1 arg2 harg2 arg3 harg3 arg4 harg4 arg5 harg5) K := by
  simp only [cc3_mla_qrope_eq_skeleton]; unfold cc3_mla_qrope_skel
  simp only [k3_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The proof data of this region: arrays as found, each output buffer overwritten at every point, nothing else touched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- The inputs' staging buffers hold their blocks when the body starts. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- The state in which the pipeline calls the body at point `t`. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- The state the body must return. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body meets its contract at every point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The table entry of the body is the body. -/
theorem defs₀_row3 (t : Fin cfg3.N) :
    defs₀ (F := F) .tc cfg3.body (cfg3.bodyArgs t (cfg3.slots t)) = bodyAt3 t := by
  unfold defs₀; rw [Defs.onTc_tc]

/-- The contract in the form the pipeline library asks for. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Own

end
-- ==== Proof.KernelIdeal.Region4Blocks.lean ====
/-
  Region 4, the attention kernel: the blocks its windows stage.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The block window `w` stages at point `t`: the part of its array the index map selects. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- At every point the staging buffer of this input window holds the window's block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- At every point the staging buffer of this input window holds the window's block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- At every point the staging buffer of this input window holds the window's block. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- At every point the staging buffer of this input window holds the window's block. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- At every point the staging buffer of this input window holds the window's block. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- At every point the staging buffer of this input window holds the window's block. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
end Cert.KernelIdeal.Own

end
-- ==== Proof.KernelIdeal.Region4Run.lean ====
/-
  Region 4: the attention body run at each query tile.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The rectangles the body reads and writes. -/

abbrev rO : Rect S1 := Rect.unit (s := S1) ![0] S1.size inb_S1_S1_0
abbrev rQin : Rect S512x128 := Rect.unit (s := S512x128) ![0, 0] S512x128.size inb_S512x128_S512x128_0_0
abbrev rKin : Rect S2048x128 := Rect.unit (s := S2048x128) ![0, 0] S2048x128.size inb_S2048x128_S2048x128_0_0
abbrev rK0 : Rect S2048x192 := Rect.unit (s := S2048x192) ![0, 0] S2048x128.size inb_S2048x192_S2048x128_0_0
abbrev rK1 : Rect S2048x192 := Rect.unit (s := S2048x192) ![0, 128] S2048x64.size inb_S2048x192_S2048x64_0_128
abbrev rQ0 : Rect S512x192 := Rect.unit (s := S512x192) ![0, 0] S512x128.size inb_S512x192_S512x128_0_0
abbrev rQ1 : Rect S512x192 := Rect.unit (s := S512x192) ![0, 128] S512x64.size inb_S512x192_S512x64_0_128
abbrev rQ : Rect S512x192 := Rect.unit (s := S512x192) ![0, 0] S512x192.size inb_S512x192_S512x192_0_0
abbrev rC0 : Rect S2048x192 := Rect.unit (s := S2048x192) ![0, 0] S512x192.size inb_S2048x192_S512x192_0_0
abbrev rC1 : Rect S2048x192 := Rect.unit (s := S2048x192) ![512, 0] S512x192.size inb_S2048x192_S512x192_512_0
abbrev rC2 : Rect S2048x192 := Rect.unit (s := S2048x192) ![1024, 0] S512x192.size inb_S2048x192_S512x192_1024_0
abbrev rC3 : Rect S2048x192 := Rect.unit (s := S2048x192) ![1536, 0] S512x192.size inb_S2048x192_S512x192_1536_0
abbrev rV0 : Rect S2048x128 := Rect.unit (s := S2048x128) ![0, 0] S512x128.size inb_S2048x128_S512x128_0_0
abbrev rV1 : Rect S2048x128 := Rect.unit (s := S2048x128) ![512, 0] S512x128.size inb_S2048x128_S512x128_512_0
abbrev rV2 : Rect S2048x128 := Rect.unit (s := S2048x128) ![1024, 0] S512x128.size inb_S2048x128_S512x128_1024_0
abbrev rV3 : Rect S2048x128 := Rect.unit (s := S2048x128) ![1536, 0] S512x128.size inb_S2048x128_S512x128_1536_0
abbrev rOut : Rect S128x512 := Rect.unit (s := S128x512) ![0, 0] S128x512.size inb_S128x512_S128x512_0_0

/-- The key scratch once filled: the content keys beside the head's half of the rotary keys. -/
def kcat (i : grid4.Coords) (x3 x4 : Vec F S2048x128 .bf16) : Vec F S2048x192 .bf16 :=
  View.canon [⟨rK1, k4_pay24 i (View.ld x3 rKin)⟩, ⟨rK0, k4_pay23 (View.ld x4 rKin)⟩]
/-- The query scratch once filled: the content queries beside the head's half of the rotary queries. -/
def qcat (i : grid4.Coords) (x1 x2 : Vec F S512x128 .bf16) : Vec F S512x192 .bf16 :=
  View.canon [⟨rQ1, k4_pay26 i (View.ld x2 rQin)⟩, ⟨rQ0, k4_pay25 (View.ld x1 rQin)⟩]
/-- A one-element array has one index. -/
theorem S1_idx (x y : S1.Idx) : x = y := funext fun a => match a with
  | ⟨0, _⟩ => Subsingleton.elim (α := Fin 1) _ _
  | ⟨_ + 1, h⟩ => absurd h (by simp)
/-- The offset word. -/
def offs (x0 : Vec F S1 .i32) : Elt F .i32 := x0 (fun a => ⟨0, by revert a; decide⟩)
/-- The output block of query tile 0: one key chunk. -/
def attn0 (o : Elt F .i32) (K : Vec F S2048x192 .bf16) (Q : Vec F S512x192 .bf16) (x5 : Vec F S2048x128 .bf16) : Vec F S128x512 .bf16 :=
  View.canon [⟨rOut, k4_pay27 o (View.ld Q rQ) (View.ld K rC0) (View.ld x5 rV0)⟩]
/-- The output block of query tile 1: two key chunks. -/
def attn1 (o : Elt F .i32) (K : Vec F S2048x192 .bf16) (Q : Vec F S512x192 .bf16) (x5 : Vec F S2048x128 .bf16) : Vec F S128x512 .bf16 :=
  View.canon [⟨rOut, k4_pay1 (k4_pay6 o (View.ld Q rQ) (View.ld K rC0) (View.ld x5 rV0) (View.ld K rC1) (View.ld x5 rV1))
    (k4_pay7 o (View.ld Q rQ) (View.ld K rC0) (View.ld K rC1))⟩]
/-- The output block of query tile 2: three key chunks. -/
def attn2 (o : Elt F .i32) (K : Vec F S2048x192 .bf16) (Q : Vec F S512x192 .bf16) (x5 : Vec F S2048x128 .bf16) : Vec F S128x512 .bf16 :=
  View.canon [⟨rOut, k4_pay2 (k4_pay10 (View.ld Q rQ) (View.ld K rC0) (View.ld K rC1))
    (k4_pay11 (View.ld Q rQ) (View.ld K rC0) (View.ld x5 rV0) (View.ld K rC1) (View.ld x5 rV1))
    (k4_pay12 (View.ld Q rQ) (View.ld K rC2)) (k4_pay13 o) (k4_pay14 (F := F)) (View.ld x5 rV2)⟩]
/-- The output block of query tile 3: four key chunks. -/
def attn3 (o : Elt F .i32) (K : Vec F S2048x192 .bf16) (Q : Vec F S512x192 .bf16) (x5 : Vec F S2048x128 .bf16) : Vec F S128x512 .bf16 :=
  View.canon [⟨rOut, k4_pay3 o (View.ld Q rQ) (k4_pay17 (View.ld Q rQ) (View.ld K rC0) (View.ld K rC1))
    (k4_pay18 (View.ld Q rQ) (View.ld K rC0) (View.ld x5 rV0) (View.ld K rC1) (View.ld x5 rV1))
    (k4_pay20 (View.ld Q rQ) (View.ld K rC2)) (k4_pay21 (View.ld x5 rV2)) (k4_pay22 (View.ld Q rQ) (View.ld K rC2))
    (View.ld K rC3) (View.ld x5 rV3)⟩]

/-- The two stores into the key scratch fill it. -/
theorem cover_kcat (p0 : Vec F S2048x128 .bf16) (p1 : Vec F S2048x64 .bf16) (y : S2048x192.Idx) :
    ∃ pc ∈ ([⟨rK1, p1⟩, ⟨rK0, p0⟩] : List (View.Piece (Elt F) S2048x192 .bf16)), y ∈ pc.1.set :=
  View.cover_of_tiledBy [⟨rK1, p1⟩, ⟨rK0, p0⟩] ![2048, 64] (by sl_kernel_rfl) y
/-- The two stores into the query scratch fill it. -/
theorem cover_qcat (p0 : Vec F S512x128 .bf16) (p1 : Vec F S512x64 .bf16) (y : S512x192.Idx) :
    ∃ pc ∈ ([⟨rQ1, p1⟩, ⟨rQ0, p0⟩] : List (View.Piece (Elt F) S512x192 .bf16)), y ∈ pc.1.set :=
  View.cover_of_tiledBy [⟨rQ1, p1⟩, ⟨rQ0, p0⟩] ![512, 64] (by sl_kernel_rfl) y
/-- The one store into the output block fills it. -/
theorem cover_out (p0 : Vec F S128x512 .bf16) (y : S128x512.Idx) :
    ∃ pc ∈ ([⟨rOut, p0⟩] : List (View.Piece (Elt F) S128x512 .bf16)), y ∈ pc.1.set :=
  View.cover_of_tiled [⟨rOut, p0⟩] S128x512.size (by rfl) y

attribute [local irreducible] k4_pay1 k4_pay2 k4_pay3 k4_pay6 k4_pay7 k4_pay10 k4_pay11 k4_pay12 k4_pay13 k4_pay14 k4_pay17 k4_pay18 k4_pay20 k4_pay21 k4_pay22 k4_pay27 View.canon

/-! The body's branch conditions. -/

abbrev isTile0 (i : grid4.Coords) : Prop := Scalar.cmpi .ne (Scalar.extui (Scalar.cmpi .eq (BitVec.ofNat 32 (i 1).val) 0#32) : BitVec 32) 0#32 = 1#1
set_option maxHeartbeats 1000000 in
/-- The body at query tile 0. -/
theorem sound_tile0 (c : Dev nD) (i : grid4.Coords) (arg2 : Memref sig .tc .smem S1 .i32) (harg2 : arg2.IsWhole) (arg3 : Memref sig .tc .vmem S512x128 .bf16) (harg3 : arg3.IsWhole) (arg4 : Memref sig .tc .vmem S512x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S128x512 .bf16) (harg8 : arg8.IsWhole) (arg9 : Memref sig .tc .vmem S2048x192 .bf16) (harg9 : arg9.IsWhole) (arg10 : Memref sig .tc .vmem S512x192 .bf16) (harg10 : arg10.IsWhole)
    (hcK : isTile0 i) (hc0 : k4_cond2 i = 1#1) (hc1 : ¬k4_cond3 i = 1#1) (hc2 : ¬k4_cond4 i = 1#1) (hc3 : ¬k4_cond5 i = 1#1)
    (x0 : Vec F S1 .i32) (x1 : Vec F S512x128 .bf16) (x2 : Vec F S512x128 .bf16) (x3 : Vec F S2048x128 .bf16) (x4 : Vec F S2048x128 .bf16) (x5 : Vec F S2048x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (attn0 (offs x0) (kcat i x3 x4) (qcat i x1 x2) x5) ∗ owns (c : Thread nD τ) arg9 fullShare (kcat i x3 x4) ∗ owns (c : Thread nD τ) arg10 fullShare (qcat i x1 x2)) -∗ K ⟨⟩))
      ⊢ wp frame (wpE (defs₀ (F := F)) Variants.none c none) E (cc4_mla_attn i arg2 harg2 arg3 harg3 arg4 harg4 arg5 harg5 arg6 harg6 arg7 harg7 arg8 harg8 arg9 harg9 arg10 harg10) K := by
  simp only [cc4_mla_attn_eq_skeleton]; unfold cc4_mla_attn_skel
  simp only [k4_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  subst hf0 hf1 hf2 hf3 hf4 hf5
  sl_exec (disch := first | sl_exact hcK | sl_exact hc0 | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover_out _)).trans ?_
    have hq : sound_tile0.sl.v40 c i arg3 arg4 arg10 f1 f2 = View.ld (qcat i (View.read (Elt F) arg3.view f1) (View.read (Elt F) arg4.view f2)) rQ :=
      View.readCov_eq_canon_ld arg10.view _ rQ (cover_qcat _ _)
    have ho : sound_tile0.sl.r c arg2 f0 = offs (View.read (Elt F) arg2.view f0) :=
      congrArg (View.read (Elt F) arg2.view f0) (S1_idx _ _)
    have hk : sound_tile0.sl.v41 c i arg5 arg6 arg9 f3 f4 = View.ld (kcat i (View.read (Elt F) arg5.view f3) (View.read (Elt F) arg6.view f4)) rC0 :=
      View.readCov_eq_canon_ld arg9.view _ rC0 (cover_kcat _ _)
    rw [ho, hq, hk, attn0]
    rfl
  isplitl [HS0]
  · iexists _; isplitr
    swap; · iexact HS0
    ipureintro
    exact View.read_writes_eq_canon _ _ _ (cover_kcat _ _)
  iexists _; isplitr
  swap; · iexact HS1
  ipureintro
  exact View.read_writes_eq_canon _ _ _ (cover_qcat _ _)

set_option maxHeartbeats 1000000 in
/-- The body at query tile 1. -/
theorem sound_tile1 (c : Dev nD) (i : grid4.Coords) (arg2 : Memref sig .tc .smem S1 .i32) (harg2 : arg2.IsWhole) (arg3 : Memref sig .tc .vmem S512x128 .bf16) (harg3 : arg3.IsWhole) (arg4 : Memref sig .tc .vmem S512x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S128x512 .bf16) (harg8 : arg8.IsWhole) (arg9 : Memref sig .tc .vmem S2048x192 .bf16) (harg9 : arg9.IsWhole) (arg10 : Memref sig .tc .vmem S512x192 .bf16) (harg10 : arg10.IsWhole)
    (hcK : ¬isTile0 i) (hc0 : ¬k4_cond2 i = 1#1) (hc1 : k4_cond3 i = 1#1) (hc2 : ¬k4_cond4 i = 1#1) (hc3 : ¬k4_cond5 i = 1#1)
    (x0 : Vec F S1 .i32) (x1 : Vec F S512x128 .bf16) (x2 : Vec F S512x128 .bf16) (x3 : Vec F S2048x128 .bf16) (x4 : Vec F S2048x128 .bf16) (x5 : Vec F S2048x128 .bf16) (kc : Vec F S2048x192 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare kc ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (attn1 (offs x0) kc (qcat i x1 x2) x5) ∗ owns (c : Thread nD τ) arg9 fullShare kc ∗ owns (c : Thread nD τ) arg10 fullShare (qcat i x1 x2)) -∗ K ⟨⟩))
      ⊢ wp frame (wpE (defs₀ (F := F)) Variants.none c none) E (cc4_mla_attn i arg2 harg2 arg3 harg3 arg4 harg4 arg5 harg5 arg6 harg6 arg7 harg7 arg8 harg8 arg9 harg9 arg10 harg10) K := by
  simp only [cc4_mla_attn_eq_skeleton]; unfold cc4_mla_attn_skel
  simp only [k4_part4_eq_skeleton, k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, Hk⟩
  subst hf0 hf1 hf2 hf3 hf4 hf5 hfs0
  sl_exec (disch := first | sl_exact hcK | sl_exact hc0 | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover_out _)).trans ?_
    have hq : sound_tile1.sl.v40 c i arg3 arg4 arg10 f1 f2 = View.ld (qcat i (View.read (Elt F) arg3.view f1) (View.read (Elt F) arg4.view f2)) rQ :=
      View.readCov_eq_canon_ld arg10.view _ rQ (cover_qcat _ _)
    have ho : sound_tile1.sl.r c arg2 f0 = offs (View.read (Elt F) arg2.view f0) :=
      congrArg (View.read (Elt F) arg2.view f0) (S1_idx _ _)
    delta sound_tile1.sl.r_1 sound_tile1.sl.r_2
    rw [ho, hq, attn1]
    rfl
  isplitl [HS0]
  · iexists fs0; isplitr; · ipureintro; rfl
    iexact HS0
  iexists _; isplitr
  swap; · iexact HS1
  ipureintro
  exact View.read_writes_eq_canon _ _ _ (cover_qcat _ _)

set_option maxHeartbeats 1000000 in
/-- The body at query tile 2. -/
theorem sound_tile2 (c : Dev nD) (i : grid4.Coords) (arg2 : Memref sig .tc .smem S1 .i32) (harg2 : arg2.IsWhole) (arg3 : Memref sig .tc .vmem S512x128 .bf16) (harg3 : arg3.IsWhole) (arg4 : Memref sig .tc .vmem S512x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S128x512 .bf16) (harg8 : arg8.IsWhole) (arg9 : Memref sig .tc .vmem S2048x192 .bf16) (harg9 : arg9.IsWhole) (arg10 : Memref sig .tc .vmem S512x192 .bf16) (harg10 : arg10.IsWhole)
    (hcK : ¬isTile0 i) (hc0 : ¬k4_cond2 i = 1#1) (hc1 : ¬k4_cond3 i = 1#1) (hc2 : k4_cond4 i = 1#1) (hc3 : ¬k4_cond5 i = 1#1)
    (x0 : Vec F S1 .i32) (x1 : Vec F S512x128 .bf16) (x2 : Vec F S512x128 .bf16) (x3 : Vec F S2048x128 .bf16) (x4 : Vec F S2048x128 .bf16) (x5 : Vec F S2048x128 .bf16) (kc : Vec F S2048x192 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare kc ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (attn2 (offs x0) kc (qcat i x1 x2) x5) ∗ owns (c : Thread nD τ) arg9 fullShare kc ∗ owns (c : Thread nD τ) arg10 fullShare (qcat i x1 x2)) -∗ K ⟨⟩))
      ⊢ wp frame (wpE (defs₀ (F := F)) Variants.none c none) E (cc4_mla_attn i arg2 harg2 arg3 harg3 arg4 harg4 arg5 harg5 arg6 harg6 arg7 harg7 arg8 harg8 arg9 harg9 arg10 harg10) K := by
  simp only [cc4_mla_attn_eq_skeleton]; unfold cc4_mla_attn_skel
  simp only [k4_part4_eq_skeleton, k4_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, Hk⟩
  subst hf0 hf1 hf2 hf3 hf4 hf5 hfs0
  sl_exec (disch := first | sl_exact hcK | sl_exact hc0 | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover_out _)).trans ?_
    have hq : sound_tile2.sl.v40 c i arg3 arg4 arg10 f1 f2 = View.ld (qcat i (View.read (Elt F) arg3.view f1) (View.read (Elt F) arg4.view f2)) rQ :=
      View.readCov_eq_canon_ld arg10.view _ rQ (cover_qcat _ _)
    have ho : sound_tile2.sl.r c arg2 f0 = offs (View.read (Elt F) arg2.view f0) :=
      congrArg (View.read (Elt F) arg2.view f0) (S1_idx _ _)
    delta sound_tile2.sl.r_1 sound_tile2.sl.r_2 sound_tile2.sl.r_3 sound_tile2.sl.r_4
    rw [ho, hq, attn2]
    rfl
  isplitl [HS0]
  · iexists fs0; isplitr; · ipureintro; rfl
    iexact HS0
  iexists _; isplitr
  swap; · iexact HS1
  ipureintro
  exact View.read_writes_eq_canon _ _ _ (cover_qcat _ _)

set_option maxHeartbeats 1000000 in
/-- The body at query tile 3. -/
theorem sound_tile3 (c : Dev nD) (i : grid4.Coords) (arg2 : Memref sig .tc .smem S1 .i32) (harg2 : arg2.IsWhole) (arg3 : Memref sig .tc .vmem S512x128 .bf16) (harg3 : arg3.IsWhole) (arg4 : Memref sig .tc .vmem S512x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S128x512 .bf16) (harg8 : arg8.IsWhole) (arg9 : Memref sig .tc .vmem S2048x192 .bf16) (harg9 : arg9.IsWhole) (arg10 : Memref sig .tc .vmem S512x192 .bf16) (harg10 : arg10.IsWhole)
    (hcK : ¬isTile0 i) (hc0 : ¬k4_cond2 i = 1#1) (hc1 : ¬k4_cond3 i = 1#1) (hc2 : ¬k4_cond4 i = 1#1) (hc3 : k4_cond5 i = 1#1)
    (x0 : Vec F S1 .i32) (x1 : Vec F S512x128 .bf16) (x2 : Vec F S512x128 .bf16) (x3 : Vec F S2048x128 .bf16) (x4 : Vec F S2048x128 .bf16) (x5 : Vec F S2048x128 .bf16) (kc : Vec F S2048x192 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare kc ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (attn3 (offs x0) kc (qcat i x1 x2) x5) ∗ owns (c : Thread nD τ) arg9 fullShare kc ∗ owns (c : Thread nD τ) arg10 fullShare (qcat i x1 x2)) -∗ K ⟨⟩))
      ⊢ wp frame (wpE (defs₀ (F := F)) Variants.none c none) E (cc4_mla_attn i arg2 harg2 arg3 harg3 arg4 harg4 arg5 harg5 arg6 harg6 arg7 harg7 arg8 harg8 arg9 harg9 arg10 harg10) K := by
  simp only [cc4_mla_attn_eq_skeleton]; unfold cc4_mla_attn_skel
  simp only [k4_part4_eq_skeleton, k4_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, Hk⟩
  subst hf0 hf1 hf2 hf3 hf4 hf5 hfs0
  sl_exec (disch := first | sl_exact hcK | sl_exact hc0 | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover_out _)).trans ?_
    have hq : sound_tile3.sl.v40 c i arg3 arg4 arg10 f1 f2 = View.ld (qcat i (View.read (Elt F) arg3.view f1) (View.read (Elt F) arg4.view f2)) rQ :=
      View.readCov_eq_canon_ld arg10.view _ rQ (cover_qcat _ _)
    have ho : sound_tile3.sl.r c arg2 f0 = offs (View.read (Elt F) arg2.view f0) :=
      congrArg (View.read (Elt F) arg2.view f0) (S1_idx _ _)
    delta sound_tile3.sl.r_1 sound_tile3.sl.r_2 sound_tile3.sl.r_3 sound_tile3.sl.r_4 sound_tile3.sl.r_5
    rw [ho, hq, attn3]
    rfl
  isplitl [HS0]
  · iexists fs0; isplitr; · ipureintro; rfl
    iexact HS0
  iexists _; isplitr
  swap; · iexact HS1
  ipureintro
  exact View.read_writes_eq_canon _ _ _ (cover_qcat _ _)

end Cert.KernelIdeal.Own

end
-- ==== Proof.KernelIdeal.Region4.lean ====
/-
  Region 4: the contract of the attention pipeline. The key scratch is filled at the first of each four points and read at
  all four, so the invariant names its contents between the points of one group.
-/
module

public import proofs.«01_k».proof.Proof.KernelIdeal.Region4Blocks
public import proofs.«01_k».proof.Proof.KernelIdeal.Region4Run

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! When each branch of the body is taken. -/

theorem at_cond0 : ∀ t : Fin cfg4.N, isTile0 (grid4.coords t) ↔ t.val % 4 = 0 :=
  (fun t => by
    have ht : t.val < 128 := Nat.lt_of_lt_of_eq t.isLt N_4
    have e0 : (grid4.coords t 0).val = t.val / 4 % 32 := Pipeline.Grid.coords_val t 0 (by decide) rfl
    have e1 : (grid4.coords t 1).val = t.val / 1 % 4 := Pipeline.Grid.coords_val t 1 (by decide) rfl
    simp only [isTile0, e0, e1]
    word_cmp
   : ∀ t : Fin grid4.N, isTile0 (grid4.coords t) ↔ t.val % 4 = 0)
theorem at_cond1 : ∀ t : Fin cfg4.N, k4_cond2 (grid4.coords t) = 1#1 ↔ t.val % 4 = 0 :=
  (fun t => by
    have ht : t.val < 128 := Nat.lt_of_lt_of_eq t.isLt N_4
    have e0 : (grid4.coords t 0).val = t.val / 4 % 32 := Pipeline.Grid.coords_val t 0 (by decide) rfl
    have e1 : (grid4.coords t 1).val = t.val / 1 % 4 := Pipeline.Grid.coords_val t 1 (by decide) rfl
    simp only [k4_cond2, e0, e1]
    word_cmp
   : ∀ t : Fin grid4.N, k4_cond2 (grid4.coords t) = 1#1 ↔ t.val % 4 = 0)
theorem at_cond2 : ∀ t : Fin cfg4.N, k4_cond3 (grid4.coords t) = 1#1 ↔ t.val % 4 = 1 :=
  (fun t => by
    have ht : t.val < 128 := Nat.lt_of_lt_of_eq t.isLt N_4
    have e0 : (grid4.coords t 0).val = t.val / 4 % 32 := Pipeline.Grid.coords_val t 0 (by decide) rfl
    have e1 : (grid4.coords t 1).val = t.val / 1 % 4 := Pipeline.Grid.coords_val t 1 (by decide) rfl
    simp only [k4_cond3, e0, e1]
    word_cmp
   : ∀ t : Fin grid4.N, k4_cond3 (grid4.coords t) = 1#1 ↔ t.val % 4 = 1)
theorem at_cond3 : ∀ t : Fin cfg4.N, k4_cond4 (grid4.coords t) = 1#1 ↔ t.val % 4 = 2 :=
  (fun t => by
    have ht : t.val < 128 := Nat.lt_of_lt_of_eq t.isLt N_4
    have e0 : (grid4.coords t 0).val = t.val / 4 % 32 := Pipeline.Grid.coords_val t 0 (by decide) rfl
    have e1 : (grid4.coords t 1).val = t.val / 1 % 4 := Pipeline.Grid.coords_val t 1 (by decide) rfl
    simp only [k4_cond4, e0, e1]
    word_cmp
   : ∀ t : Fin grid4.N, k4_cond4 (grid4.coords t) = 1#1 ↔ t.val % 4 = 2)
theorem at_cond4 : ∀ t : Fin cfg4.N, k4_cond5 (grid4.coords t) = 1#1 ↔ t.val % 4 = 3 :=
  (fun t => by
    have ht : t.val < 128 := Nat.lt_of_lt_of_eq t.isLt N_4
    have e0 : (grid4.coords t 0).val = t.val / 4 % 32 := Pipeline.Grid.coords_val t 0 (by decide) rfl
    have e1 : (grid4.coords t 1).val = t.val / 1 % 4 := Pipeline.Grid.coords_val t 1 (by decide) rfl
    simp only [k4_cond5, e0, e1]
    word_cmp
   : ∀ t : Fin grid4.N, k4_cond5 (grid4.coords t) = 1#1 ↔ t.val % 4 = 3)

/-- Some branch of the body stores the output at every point. -/
theorem live4_6 : ∀ t : Fin cfg4.N, cfg4.idle 6 (grid4.coords t) = false := by decide +kernel

/-! The staging buffers at a point, and the two scratch buffers. -/

abbrev ms4_0 (t : Fin cfg4.N) : Memref sig .tc .smem S1 .i32 := win4_0.stage (cfg4.slots t 0)
abbrev ms4_1 (t : Fin cfg4.N) : Memref sig .tc .vmem S512x128 .bf16 := win4_1.stage (cfg4.slots t 1)
abbrev ms4_2 (t : Fin cfg4.N) : Memref sig .tc .vmem S512x128 .bf16 := win4_2.stage (cfg4.slots t 2)
abbrev ms4_3 (t : Fin cfg4.N) : Memref sig .tc .vmem S2048x128 .bf16 := win4_3.stage (cfg4.slots t 3)
abbrev ms4_4 (t : Fin cfg4.N) : Memref sig .tc .vmem S2048x128 .bf16 := win4_4.stage (cfg4.slots t 4)
abbrev ms4_5 (t : Fin cfg4.N) : Memref sig .tc .vmem S2048x128 .bf16 := win4_5.stage (cfg4.slots t 5)
abbrev ms4_6 (t : Fin cfg4.N) : Memref sig .tc .vmem S128x512 .bf16 := win4_6.stage (cfg4.slots t 6)
abbrev scK : Memref sig .tc .vmem S2048x192 .bf16 := Memref.whole cc4_scratch0
abbrev scQ : Memref sig .tc .vmem S512x192 .bf16 := Memref.whole cc4_scratch1

/-- The first point of the group of four that point `n` belongs to. -/
def headPt (n : ℕ) : Fin cfg4.N := ⟨4 * (n / 4) % 128, lt_of_lt_of_eq (Nat.mod_lt _ (by decide)) (show 128 = cfg4.N from N_4.symm)⟩
/-- The key scratch during the group of point `n`: filled at the group's first point. -/
def kst (c : Dev nD) (n : ℕ) : Vec F S2048x192 .bf16 :=
  kcat (grid4.coords (headPt n)) (iblk4 V c 3 (headPt n)) (iblk4 V c 4 (headPt n))
theorem headPt_self (t : Fin cfg4.N) (h : t.val % 4 = 0) : headPt t.val = t := by
  have ht : t.val < 128 := Nat.lt_of_lt_of_eq t.isLt N_4
  apply Fin.ext; show 4 * (t.val / 4) % 128 = t.val; omega
theorem kst_self (c : Dev nD) (t : Fin cfg4.N) (h : t.val % 4 = 0) :
    kst V c t.val = kcat (grid4.coords t) (iblk4 V c 3 t) (iblk4 V c 4 t) := by
  unfold kst; rw [headPt_self t h]
theorem kst_succ (c : Dev nD) (n : ℕ) (h : ¬ n % 4 = 3) : kst V c (n + 1) = kst V c n := by
  have e : headPt (n + 1) = headPt n := Fin.ext (by show 4 * ((n + 1) / 4) % 128 = 4 * (n / 4) % 128; omega)
  unfold kst; rw [e]
/-- What is known of the key scratch before point `n`. -/
def keyAt (c : Dev nD) (n : ℕ) : sProp 𝕄 :=
  if n % 4 = 0 then iprop(∃ d, owns (c : Thread nD τ) scK fullShare d) else owns (c : Thread nD τ) scK fullShare (kst V c n)
theorem keyAt_zero (c : Dev nD) (n : ℕ) (h : n % 4 = 0) : keyAt V c n = iprop(∃ d, owns (c : Thread nD τ) scK fullShare d) := if_pos h
theorem keyAt_pos (c : Dev nD) (n : ℕ) (h : ¬ n % 4 = 0) : keyAt V c n = owns (c : Thread nD τ) scK fullShare (kst V c n) := if_neg h
/-- The region's invariant before point `n`: the two scratch buffers, the other scoped buffers unopened, the generator register. -/
def PhiS (c : Dev nD) (n : ℕ) : sProp 𝕄 :=
  iprop(keyAt V c n ∗ (∃ d, owns (c : Thread nD τ) scQ fullShare d)
    ∗ Pipeline.scopedRestBut (Ix := Unit) (Name := ℕ) (U := UR sig nD τ) (Lvl := ℕ) (Val := Elt F) spec4 c [cc4_scratch0, cc4_scratch1] ∗ (∃ r, prngReg c r))
/-- The output block after the body at point `t`. -/
def outAt4 (c : Dev nD) (t : Fin cfg4.N) : Vec F S128x512 .bf16 :=
  if t.val % 4 = 0 then attn0 (offs (iblk4 V c 0 t)) (kst V c t.val) (qcat (grid4.coords t) (iblk4 V c 1 t) (iblk4 V c 2 t)) (iblk4 V c 5 t)
  else if t.val % 4 = 1 then attn1 (offs (iblk4 V c 0 t)) (kst V c t.val) (qcat (grid4.coords t) (iblk4 V c 1 t) (iblk4 V c 2 t)) (iblk4 V c 5 t)
  else if t.val % 4 = 2 then attn2 (offs (iblk4 V c 0 t)) (kst V c t.val) (qcat (grid4.coords t) (iblk4 V c 1 t) (iblk4 V c 2 t)) (iblk4 V c 5 t)
  else attn3 (offs (iblk4 V c 0 t)) (kst V c t.val) (qcat (grid4.coords t) (iblk4 V c 1 t) (iblk4 V c 2 t)) (iblk4 V c 5 t)

/-- The proof data of the attention pipeline. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => outAt4 V c t
  Φ t := PhiS V c t.val
  q _ := fullShare
  owed _ := 0

/-- The arrays are the entry contents. -/
theorem A_eq4 (c : Dev nD) (w : Fin cfg4.W) : (dat4 V c).A w = V c (Pipeline.arrRef spec4 w) := by dsimp only [dat4]
theorem Phi_castSucc (c : Dev nD) (t : Fin cfg4.N) : (dat4 V c).Φ t.castSucc = PhiS V c t.val := by dsimp only [dat4]; rfl
theorem Phi_succ (c : Dev nD) (t : Fin cfg4.N) : (dat4 V c).Φ t.succ = PhiS V c (t.val + 1) := by dsimp only [dat4]; rfl

/-! What the body finds and leaves, window by window. -/

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = outAt4 V c t := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- The state in which the pipeline calls the body at point `t`. -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- The state the body must return. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t))

set_option maxHeartbeats 1000000 in
/-- The body at a point of query tile 0. -/
theorem sound_body4_0 (c : Dev nD) (t : Fin cfg4.N) (h : t.val % 4 = 0) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl, Phi_succ, Phi_castSucc,
    after4_0, after4_1, after4_2, after4_3, after4_4, after4_5, after4_6]
  unfold PhiS
  rw [keyAt_zero V c t.val h, keyAt_pos V c (t.val + 1) (by omega), kst_succ V c t.val (by omega), outAt4, if_pos h]
  rw [kst_self V c t h]
  iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
  iapply (sound_tile0 c (grid4.coords t) _ _ _ _ _ _ _ _ _ _ _ _ _ _ _ _ _ _ ((at_cond0 t).mpr h) ((at_cond1 t).mpr h) (fun e => by have := (at_cond2 t).mp e; omega) (fun e => by have := (at_cond3 t).mp e; omega) (fun e => by have := (at_cond4 t).mp e; omega) (iblk4 V c 0 t) (iblk4 V c 1 t) (iblk4 V c 2 t) (iblk4 V c 3 t) (iblk4 V c 4 t) (iblk4 V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hr Hg]
  · isplitl [HS0]; · iexact HS0
    isplitl [HS1]; · iexists _; iexact HS1
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1000000 in
/-- The body at a point of query tile 1. -/
theorem sound_body4_1 (c : Dev nD) (t : Fin cfg4.N) (h : t.val % 4 = 1) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl, Phi_succ, Phi_castSucc,
    after4_0, after4_1, after4_2, after4_3, after4_4, after4_5, after4_6]
  unfold PhiS
  rw [keyAt_pos V c t.val (by omega), keyAt_pos V c (t.val + 1) (by omega), kst_succ V c t.val (by omega), outAt4, if_neg (show ¬ t.val % 4 = 0 by omega), if_pos h]
  iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
  iapply (sound_tile1 c (grid4.coords t) _ _ _ _ _ _ _ _ _ _ _ _ _ _ _ _ _ _ (fun e => by have := (at_cond0 t).mp e; omega) (fun e => by have := (at_cond1 t).mp e; omega) ((at_cond2 t).mpr h) (fun e => by have := (at_cond3 t).mp e; omega) (fun e => by have := (at_cond4 t).mp e; omega) (iblk4 V c 0 t) (iblk4 V c 1 t) (iblk4 V c 2 t) (iblk4 V c 3 t) (iblk4 V c 4 t) (iblk4 V c 5 t) (kst V c t.val) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hr Hg]
  · isplitl [HS0]; · iexact HS0
    isplitl [HS1]; · iexists _; iexact HS1
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1000000 in
/-- The body at a point of query tile 2. -/
theorem sound_body4_2 (c : Dev nD) (t : Fin cfg4.N) (h : t.val % 4 = 2) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl, Phi_succ, Phi_castSucc,
    after4_0, after4_1, after4_2, after4_3, after4_4, after4_5, after4_6]
  unfold PhiS
  rw [keyAt_pos V c t.val (by omega), keyAt_pos V c (t.val + 1) (by omega), kst_succ V c t.val (by omega), outAt4, if_neg (show ¬ t.val % 4 = 0 by omega), if_neg (show ¬ t.val % 4 = 1 by omega), if_pos h]
  iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
  iapply (sound_tile2 c (grid4.coords t) _ _ _ _ _ _ _ _ _ _ _ _ _ _ _ _ _ _ (fun e => by have := (at_cond0 t).mp e; omega) (fun e => by have := (at_cond1 t).mp e; omega) (fun e => by have := (at_cond2 t).mp e; omega) ((at_cond3 t).mpr h) (fun e => by have := (at_cond4 t).mp e; omega) (iblk4 V c 0 t) (iblk4 V c 1 t) (iblk4 V c 2 t) (iblk4 V c 3 t) (iblk4 V c 4 t) (iblk4 V c 5 t) (kst V c t.val) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hr Hg]
  · isplitl [HS0]; · iexact HS0
    isplitl [HS1]; · iexists _; iexact HS1
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1000000 in
/-- The body at a point of query tile 3. -/
theorem sound_body4_3 (c : Dev nD) (t : Fin cfg4.N) (h : t.val % 4 = 3) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl, Phi_succ, Phi_castSucc,
    after4_0, after4_1, after4_2, after4_3, after4_4, after4_5, after4_6]
  unfold PhiS
  rw [keyAt_pos V c t.val (by omega), keyAt_zero V c (t.val + 1) (by omega), outAt4, if_neg (show ¬ t.val % 4 = 0 by omega), if_neg (show ¬ t.val % 4 = 1 by omega), if_neg (show ¬ t.val % 4 = 2 by omega)]
  iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
  iapply (sound_tile3 c (grid4.coords t) _ _ _ _ _ _ _ _ _ _ _ _ _ _ _ _ _ _ (fun e => by have := (at_cond0 t).mp e; omega) (fun e => by have := (at_cond1 t).mp e; omega) (fun e => by have := (at_cond2 t).mp e; omega) (fun e => by have := (at_cond3 t).mp e; omega) ((at_cond4 t).mpr h) (iblk4 V c 0 t) (iblk4 V c 1 t) (iblk4 V c 2 t) (iblk4 V c 3 t) (iblk4 V c 4 t) (iblk4 V c 5 t) (kst V c t.val) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hr Hg]
  · isplitl [HS0]; · iexists _; iexact HS0
    isplitl [HS1]; · iexists _; iexact HS1
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body meets its contract at every point. -/
theorem sound_body4 (c : Dev nD) (t : Fin cfg4.N) :
    bodyPre4 V c t ⊢ wp frame (wpE (defs₀ (F := F)) Variants.none c none) Set.univ (bodyAt4 t) (fun _ => bodyPost4 V c t) := by
  have h : t.val % 4 = 0 ∨ t.val % 4 = 1 ∨ t.val % 4 = 2 ∨ t.val % 4 = 3 := by omega
  rcases h with h | h | h | h
  · exact sound_body4_0 V c t h
  · exact sound_body4_1 V c t h
  · exact sound_body4_2 V c t h
  · exact sound_body4_3 V c t h

/-- The table entry of the body is the body. -/
theorem defs₀_row4 (t : Fin cfg4.N) :
    defs₀ (F := F) .tc cfg4.body (cfg4.bodyArgs t (cfg4.slots t)) = bodyAt4 t := by
  unfold defs₀; rw [Defs.onTc_tc]

/-- The output window is written at every point, so what it must leave is the block named above. -/
theorem leaves4_6 (c : Dev nD) (t : Fin cfg4.N) :
    (dat4 V c).leavesExact 6 t = owns (c : Thread nD τ) (ms4_6 t) fullShare ((dat4 V c).after 6 t) := by
  unfold Dat.leavesExact; rw [live4_6 t]

/-- The contract in the form the pipeline library asks for. -/
theorem body_obligation4 (c : Dev nD) : BodyObligation (dat4 (F := F) V c) (defs₀ (F := F)) Variants.none () Set.univ := fun t => by
  rw [bigSep_W4, bigSep_W4, defs₀_row4]
  refine triple_restated (sound_body4 V c t) rfl .rfl fun _ => ?_
  show bodyPost4 V c t ⊢ iprop((dat4 V c).Φ t.succ ∗ (dat4 V c).owesAt () t.succ
    ∗ (dat4 V c).leavesExact 0 t ∗ (dat4 V c).leavesExact 1 t ∗ (dat4 V c).leavesExact 2 t ∗ (dat4 V c).leavesExact 3 t
    ∗ (dat4 V c).leavesExact 4 t ∗ (dat4 V c).leavesExact 5 t ∗ (dat4 V c).leavesExact 6 t)
  rw [leaves4_6]
  exact .rfl

/-- What the launch hands the region, with the two scratch buffers opened. -/
theorem PhiA4_eq (c : Dev nD) : (Pipeline.ΦA spec4 c : sProp 𝕄)
    = iprop((((∃ d, owns (c : Thread nD τ) scK fullShare d) ∗ (∃ d, owns (c : Thread nD τ) scQ fullShare d))
      ∗ Pipeline.scopedRestBut (Ix := Unit) (Name := ℕ) (U := UR sig nD τ) (Lvl := ℕ) (Val := Elt F) spec4 c [cc4_scratch0, cc4_scratch1])
      ∗ (∃ r, prngReg c r)) := by
  unfold Pipeline.ΦA; rw [scopedRest4_split]; simp only [scK, scQ, owns_whole]; try rfl
/-- It is the invariant before the first point. -/
theorem Phi_in4 (c : Dev nD) : Pipeline.ΦA spec4 c ⊢ (dat4 V c).Φ 0 := by
  rw [show (dat4 V c).Φ 0 = PhiS V c 0 from by dsimp only [dat4]; rfl, PhiA4_eq]
  unfold PhiS; rw [keyAt_zero V c 0 rfl]
  iintro ⟨⟨⟨H0, H1⟩, Hr⟩, Hg⟩
  isplitl [H0]; · iexact H0
  isplitl [H1]; · iexact H1
  isplitl [Hr]; · iexact Hr
  iexact Hg
/-- And the invariant after the last point gives it back. -/
theorem Phi_out4 (c : Dev nD) : (dat4 V c).Φ (Fin.last cfg4.N) ⊢ Pipeline.ΦA spec4 c := by
  rw [show (dat4 V c).Φ (Fin.last cfg4.N) = PhiS V c cfg4.N from by dsimp only [dat4]; rfl, PhiA4_eq]
  unfold PhiS; rw [keyAt_zero V c _ (by rw [show cfg4.N = 128 from N_4])]
  iintro ⟨H0, H1, Hr, Hg⟩
  isplitl [H0 H1 Hr]
  · isplitl [H0 H1]
    · isplitl [H0]; · iexact H0
      iexact H1
    iexact Hr
  iexact Hg

end Cert.KernelIdeal.Own

end
-- ==== Proof.KernelIdeal.Region5.lean ====
/-
  Region 5 of the program, the output projection: its body run, and the contract of its pipeline.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The block window `w` stages at point `t`: the part of its array the index map selects. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- At every point the staging buffer of this input window holds the window's block. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- At every point the staging buffer of this input window holds the window's block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S2048x2048 := Rect.unit (s := S2048x2048) ![0, 0] S2048x2048.size inb_S2048x2048_S2048x2048_0_0
abbrev r5_1 : Rect S2048x512 := Rect.unit (s := S2048x512) ![0, 0] S2048x512.size inb_S2048x512_S2048x512_0_0
abbrev r5_2 : Rect S512x2048 := Rect.unit (s := S512x2048) ![0, 0] S512x2048.size inb_S512x2048_S512x2048_0_0

/-- What the body leaves in this output window's staging buffer, as a function of the input blocks. -/
def out5_2 (x0 : Vec F S2048x512 .bf16) (x1 : Vec F S2048x2048 .f32) : Vec F S512x2048 .f32 :=
  View.canon [⟨r5_2, k5_pay1 (View.ld x1 r5_0) (View.ld x0 r5_1)⟩]

/-- The one store fills the whole buffer. -/
theorem cover5_2 (p0 : Vec F S512x2048 .f32) (y : S512x2048.Idx) :
    ∃ pc ∈ ([⟨r5_2, p0⟩] : List (View.Piece (Elt F) S512x2048 .f32)), y ∈ pc.1.set :=
  View.cover_of_tiled [⟨r5_2, p0⟩] S512x2048.size (by rfl) y

set_option maxHeartbeats 1000000 in
/-- The kernel body, run on whole staging buffers: the inputs stay, each output is overwritten by the function above. -/
theorem sound_kernel5 (c : Dev nD) (E : Set ℕ) (i : grid5.Coords) (arg1 : Memref sig .tc .vmem S2048x512 .bf16) (harg1 : arg1.IsWhole) (arg2 : Memref sig .tc .vmem S2048x2048 .f32) (harg2 : arg2.IsWhole) (arg3 : Memref sig .tc .vmem S512x2048 .f32) (harg3 : arg3.IsWhole)
    (x0 : Vec F S2048x512 .bf16) (x1 : Vec F S2048x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5_mla_oproj i arg1 harg1 arg2 harg2 arg3 harg3) K := by
  simp only [cc5_mla_oproj_eq_skeleton]; unfold cc5_mla_oproj_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of this region: arrays as found, each output buffer overwritten at every point, nothing else touched. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The arrays are the entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- The inputs' staging buffers hold their blocks when the body starts. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- The state in which the pipeline calls the body at point `t`. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- The state the body must return. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body meets its contract at every point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The table entry of the body is the body. -/
theorem defs₀_row5 (t : Fin cfg5.N) :
    defs₀ (F := F) .tc cfg5.body (cfg5.bodyArgs t (cfg5.slots t)) = bodyAt5 t := by
  unfold defs₀; rw [Defs.onTc_tc]

/-- The contract in the form the pipeline library asks for. -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Cert.KernelIdeal.Own

end
-- ==== Proof.KernelIdeal.Run.lean ====
/-
  The whole program: its six regions and the host operations between them, run in sequence from the launch to the return.
-/
module

public import proofs.«01_k».proof.Proof.KernelIdeal.Region0
public import proofs.«01_k».proof.Proof.KernelIdeal.Region1
public import proofs.«01_k».proof.Proof.KernelIdeal.Region2
public import proofs.«01_k».proof.Proof.KernelIdeal.Region3
public import proofs.«01_k».proof.Proof.KernelIdeal.Region4
public import proofs.«01_k».proof.Proof.KernelIdeal.Region5

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6, main_v7, main_v8, main_v9, main_v10, main_v11, main_cst, main_v12, main_cst_0, main_v13, main_cst_1, main_v14, main_v15, main_v16, main_v17, main_v18, main_v19, main_v20, main_v21, main_v22, main_v23, main_v24, main_v25, main_v26, main_v27, main_v28, main_v29, main_v30]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps6` allocates a buffer. -/
theorem hostOps6_fresh : (hostOps6 : List (HloOp τ sig (Elt F))).Forall fun op => op.fresh = ∅ := by
  simp only [List.Forall]; repeat' constructor
/-- The reference each operation of `hostOps6` writes, in order. -/
abbrev hostOps6_W : List (Ref sig .tc) := [main_v35]
theorem hostOps6_writes : (hostOps6 : List (HloOp τ sig (Elt F))).Forall fun op => op.writes ⊆ (hostOps6_W.map (Proc.devRef (τ := τ) .tc)).toFinset :=
  StableHlo.forall_writes_sub_of_map rfl
/-- `hostOps6` writes none of the argument arrays (checked: each argument against each reference it writes). -/
theorem hostOps6_args : ∀ a ∈ argRefs, a ∉ hostOps6_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered, each output's write-backs
    folded: `Dat.arrAt … N`), every other buffer as entered (Lib/Pipeline/FrameSuffix.lean `withArrays`) (region 3's entry). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`) (region 4's entry). -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- A reference that is none of region 3's OUTPUT arrays keeps its entry contents across it: an input window's
    array is never written back (`Dat.arrAt_in`, `A_eq3`); any other buffer is left as is. -/
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn3 a ha)).trans (W5_args m ρ c a ha)
/-- The same read at the TensorCore's references (region 3's exit contents). -/
abbrev V6 : (c : Dev nD) → (b : Ref sig .tc) → Buf (Elt F) ((c : Thread nD τ).loc b) := fun c b => W6 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- At region 4's exit: its arrays at what the pipeline leaves (the inputs as entered, each output's write-backs
    folded: `Dat.arrAt … N`), every other buffer as entered (Lib/Pipeline/FrameSuffix.lean `withArrays`) (region 5's entry). -/
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
/-- A reference that is none of region 4's OUTPUT arrays keeps its entry contents across it: an input window's
    array is never written back (`Dat.arrAt_in`, `A_eq4`); any other buffer is left as is. -/
theorem W7_of (c : Dev nD) (r : Ref sig .tc) (h : ∀ w : Fin cfg4.W, Pipeline.arrRef spec4 w = r → (cfg4.win w).isOut = false) :
    W7 m ρ c (Proc.devRef .tc r) = W6 m ρ c (Proc.devRef .tc r) := by
  by_cases hw : ∃ w : Fin cfg4.W, Pipeline.arrRef spec4 w = r
  · obtain ⟨w, rfl⟩ := hw
    exact (W7_arr m ρ c w).trans (((dat4 (V6 m ρ) c).arrAt_in w (h w rfl) _).trans (A_eq4 (V6 m ρ) c w))
  · exact W7_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn4 a ha)).trans (W6_args m ρ c a ha)
/-- The same read at the TensorCore's references (region 4's exit contents). -/
abbrev V7 : (c : Dev nD) → (b : Ref sig .tc) → Buf (Elt F) ((c : Thread nD τ).loc b) := fun c b => W7 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

/-- At region 5's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec5 c (W7 m ρ c) fun w => (dat5 (V7 m ρ) c).arrAt w cfg5.N
theorem W8_arr (c : Dev nD) (w : Fin cfg5.W) :
    W8 m ρ c (Proc.devRef .tc (Pipeline.arrRef spec5 w)) = (dat5 (V7 m ρ) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 m ρ c (Proc.devRef .tc b) = W7 m ρ c (Proc.devRef .tc b) := by
  unfold W8; exact Pipeline.withArrays_of_ne spec5 c _ _ b hb
/-- A reference that is none of region 5's OUTPUT arrays keeps its entry contents across it: an input window's
    array is never written back (`Dat.arrAt_in`, `A_eq5`); any other buffer is left as is. -/
theorem W8_of (c : Dev nD) (r : Ref sig .tc) (h : ∀ w : Fin cfg5.W, Pipeline.arrRef spec5 w = r → (cfg5.win w).isOut = false) :
    W8 m ρ c (Proc.devRef .tc r) = W7 m ρ c (Proc.devRef .tc r) := by
  by_cases hw : ∃ w : Fin cfg5.W, Pipeline.arrRef spec5 w = r
  · obtain ⟨w, rfl⟩ := hw
    exact (W8_arr m ρ c w).trans (((dat5 (V7 m ρ) c).arrAt_in w (h w rfl) _).trans (A_eq5 (V7 m ρ) c w))
  · exact W8_of_ne m ρ c r fun w e => hw ⟨w, e⟩
/-- Every argument among region 5's arrays is an input window's (checked: each argument against each window). -/
theorem argsIn5 : ∀ a ∈ argRefs, ∀ w : Fin cfg5.W, Pipeline.arrRef spec5 w = a → (cfg5.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn5 a ha)).trans (W7_args m ρ c a ha)
/-- The same read at the TensorCore's references (region 5's exit contents). -/
abbrev V8 : (c : Dev nD) → (b : Ref sig .tc) → Buf (Elt F) ((c : Thread nD τ).loc b) := fun c b => W8 m ρ c b
/-- At region 5's exit each of its arrays holds what the pipeline leaves (`hF5`) and every other buffer what it
    held at entry (`hrest5`): the two hypotheses of Lib/Pipeline/RegionsLoop.lean `unscopedBufs_of_arrays`. -/
theorem hF5 (c : Dev nD) (w : Fin cfg5.W) : (dat5 (V7 m ρ) c).arrAt w cfg5.N = V8 m ρ c (Pipeline.arrRef spec5 w) :=
  (W8_arr m ρ c w).symm
theorem hrest5 (c : Dev nD) : ∀ b, b ∉ Finset.univ.image (Pipeline.arrRef spec5) → V8 m ρ c b = V7 m ρ c b :=
  fun b hb => W8_of_ne m ρ c b fun w e => hb (Finset.mem_image.mpr ⟨w, Finset.mem_univ _, e⟩)

/-- After `hostOps6`. -/
abbrev W9 : Dev nD → Valuation τ sig (Elt F) := fun c => StableHlo.after hostOps6 (W8 m ρ c)
/-- A reference `hostOps6` does not write keeps its contents across it. -/
theorem W9_of (c : Dev nD) (r : Ref sig .tc) (h : r ∉ hostOps6_W) : W9 m ρ c (Proc.devRef .tc r) = W8 m ρ c (Proc.devRef .tc r) :=
  StableHlo.after_of_writes_sub hostOps6 _ hostOps6_writes h
theorem W9_args (c : Dev nD) : ∀ a ∈ argRefs, W9 m ρ c (Proc.devRef .tc a) = m ((c : Thread nD τ).loc a) :=
  fun a ha => (W9_of m ρ c a (hostOps6_args a ha)).trans (W8_args m ρ c a ha)

/-! ### The arguments end as launched: no host stretch writes one and no region may change one (a region reads it
    through an input window or bypasses it) -/

theorem W9_main_arg0 (c : Dev nD) : W9 m ρ c (Proc.devRef .tc main_arg0) = m ((c : Thread nD τ).loc main_arg0) :=
  W9_args m ρ c main_arg0 (by decide)
theorem W9_main_arg1 (c : Dev nD) : W9 m ρ c (Proc.devRef .tc main_arg1) = m ((c : Thread nD τ).loc main_arg1) :=
  W9_args m ρ c main_arg1 (by decide)
theorem W9_main_arg2 (c : Dev nD) : W9 m ρ c (Proc.devRef .tc main_arg2) = m ((c : Thread nD τ).loc main_arg2) :=
  W9_args m ρ c main_arg2 (by decide)
theorem W9_main_arg3 (c : Dev nD) : W9 m ρ c (Proc.devRef .tc main_arg3) = m ((c : Thread nD τ).loc main_arg3) :=
  W9_args m ρ c main_arg3 (by decide)
theorem W9_main_arg4 (c : Dev nD) : W9 m ρ c (Proc.devRef .tc main_arg4) = m ((c : Thread nD τ).loc main_arg4) :=
  W9_args m ρ c main_arg4 (by decide)
theorem W9_main_arg5 (c : Dev nD) : W9 m ρ c (Proc.devRef .tc main_arg5) = m ((c : Thread nD τ).loc main_arg5) :=
  W9_args m ρ c main_arg5 (by decide)
theorem W9_main_arg6 (c : Dev nD) : W9 m ρ c (Proc.devRef .tc main_arg6) = m ((c : Thread nD τ).loc main_arg6) :=
  W9_args m ρ c main_arg6 (by decide)
theorem W9_main_arg7 (c : Dev nD) : W9 m ρ c (Proc.devRef .tc main_arg7) = m ((c : Thread nD τ).loc main_arg7) :=
  W9_args m ρ c main_arg7 (by decide)
theorem W9_main_arg8 (c : Dev nD) : W9 m ρ c (Proc.devRef .tc main_arg8) = m ((c : Thread nD τ).loc main_arg8) :=
  W9_args m ρ c main_arg8 (by decide)

/-! ## The proof data family and the thread state -/

/-- The prefetched tables' admissible contents: no pipeline has a table. -/
abbrev adm : (p : Fin 6) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
  | ⟨4, _⟩ => fun c => dat4 (V6 m ρ) c
  | ⟨5, _⟩ => fun c => dat5 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W9`, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- The region as one segment of the program: entered and left with every unscoped buffer held. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region as one segment of the program: entered and left with every unscoped buffer held. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region as one segment of the program: entered and left with every unscoped buffer held. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region as one segment of the program: entered and left with every unscoped buffer held. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region as one segment of the program: entered and left with every unscoped buffer held. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) (A_eq4 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec4 c : sProp 𝕄) ⊢ (pdats m ρ 4 c).Φ 0 from Phi_in4 (V6 m ρ) c)
    unfold Pipeline.ΦA
    isplitl [Hr]; · iexact Hr
    iexact Hp
  hout c := by
    rw [Pipeline.ownSems0_none]
    refine (show (pdats m ρ 4 c).Φ (Fin.last _) ⊢ (Pipeline.ΦA spec4 c : sProp 𝕄) from Phi_out4 (V6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region as one segment of the program: entered and left with every unscoped buffer held. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V7 m ρ) c).loose
  hwaits := Pipeline.hwaits_of_owed_zero _ _ _ _ L lv 5 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec5 c (V7 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V7 m ρ c) (A_eq5 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V7 m ρ c) (V8 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 9 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ),
    .region (reg4 m ρ),
    .region (reg5 m ρ),
    .host (hseg hostOps6 hostOps6_sub hostOps6_fresh (W8 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE RUN: from any memory with zero counters, every weakly fair execution terminates with nothing faulting; the result
    buffer ends at the last boundary's contents, every argument array as launched, every semaphore counter at zero. -/
theorem run : θ_run defs (onTc (τ := τ) (main (F := F))) ⟨m, fun _ => 0, ρ⟩ (fun r => (∀ c : Dev nD,
      r.2.mem ((c.tc : Thread nD τ).loc main_v35) = W9 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨h c _ (mem_uc main_v35 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩), funext fun g => hz g (.inr (no_unscoped g.2))⟩)

end Cert.KernelIdeal.Own

end
-- ==== Proof.Value.Spec.lean ====
/-
  The mathematics both programs compute, on plain real functions of natural-number indices. A row of `x` is numbered flat, `n = b * 2048 + s`.
-/
module

public import Mathlib.Analysis.SpecialFunctions.Pow.Real
public import Mathlib.Analysis.SpecialFunctions.Trigonometric.Basic
public import Mathlib.Analysis.SpecialFunctions.Log.Basic

@[expose] public section

noncomputable section

namespace Cert.Val

open scoped BigOperators
open Finset (range)

/-- The epsilon of the normalisation, as the program's word reads. -/
def eps : ℝ := 8796093 / 2 ^ 43
theorem eps_pos : 0 < eps := by unfold eps; norm_num
/-- The shift of the exponents, as the program's word reads. -/
def shift : ℝ := 12102203 / 2 ^ 19
/-- The score scale folded with the change of base. -/
def kap : ℝ := (Real.sqrt 192)⁻¹ * (Real.log 2)⁻¹

/-- Rows of `x` against rows of `w`. -/
def lin (K : ℕ) (x w : ℕ → ℕ → ℝ) (n j : ℕ) : ℝ := ∑ d ∈ range K, x n d * w j d
/-- Half-rotation within blocks of 64 columns. -/
def rot (a : ℕ → ℕ → ℝ) (n j : ℕ) : ℝ := if j % 64 < 32 then -a n (j + 32) else a n (j - 32)
/-- The rotary combination. -/
def rope (a co si : ℕ → ℕ → ℝ) (n j : ℕ) : ℝ := a n j * co n j + rot a n j * si n j

end Cert.Val

end
-- ==== Proof.Value.Rep.lean ====
/-
  Arrays of extended reals that hold real numbers.

  `Is2 A f` says that the rank-2 array `A` holds, at row `a` and column `b`, the real number `f a b`; `f` is a function of
  natural numbers, so that a statement about blocks, slices and concatenations is arithmetic on natural numbers. Each lemma
  below carries the statement through one operation.
-/
module

public import Idealize.ShloMosaic.Lib.ValueIdx
public import Idealize.ShloMosaic.Lib.Pipeline.Value
public import Idealize.ShloMosaic.PureOps.Ideal.Laws
public import Idealize.ShloMosaic.Lib.WordCmp
public import proofs.«01_k».proof.Proof.Value.Spec
public import Idealize.ShloMosaic.Lib.ValueLayout

@[expose] public section

noncomputable section

namespace Cert.Val

open Idealize.ShloMosaic Idealize.ShloMosaic.ValueIdx
open scoped BigOperators

/-- The rank-1 array holds the reals `f`. -/
def Is1 {n : ℕ} (A : (⟨1, ![n]⟩ : Shape).Idx → EReal) (f : ℕ → ℝ) : Prop := ∀ i, A i = ((f (i 0).val : ℝ) : EReal)
/-- The rank-2 array holds the reals `f`. -/
def Is2 {n m : ℕ} (A : (⟨2, ![n, m]⟩ : Shape).Idx → EReal) (f : ℕ → ℕ → ℝ) : Prop :=
  ∀ i, A i = ((f (i 0).val (i 1).val : ℝ) : EReal)
/-- The rank-3 array holds the reals `f`. -/
def Is3 {n m k : ℕ} (A : (⟨3, ![n, m, k]⟩ : Shape).Idx → EReal) (f : ℕ → ℕ → ℕ → ℝ) : Prop :=
  ∀ i, A i = ((f (i 0).val (i 1).val (i 2).val : ℝ) : EReal)
/-- The rank-4 array holds the reals `f`. -/
def Is4 {n m k l : ℕ} (A : (⟨4, ![n, m, k, l]⟩ : Shape).Idx → EReal) (f : ℕ → ℕ → ℕ → ℕ → ℝ) : Prop :=
  ∀ i, A i = ((f (i 0).val (i 1).val (i 2).val (i 3).val : ℝ) : EReal)

/-- Two descriptions that agree on the array's indices describe the same array. -/
theorem Is2.congr {n m : ℕ} {A : (⟨2, ![n, m]⟩ : Shape).Idx → EReal} {f g : ℕ → ℕ → ℝ} (h : Is2 A f)
    (e : ∀ a b, a < n → b < m → f a b = g a b) : Is2 A g := fun i => by
  rw [h i, e _ _ (idx2_lt0 i) (idx2_lt1 i)]

/-- A finite sum of reals, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The same over the numbers below `K`. -/
theorem coe_sum_fin (K : ℕ) (f : ℕ → ℝ) :
    ∑ k : Fin K, ((f k.val : ℝ) : EReal) = ((∑ k ∈ Finset.range K, f k : ℝ) : EReal) := by
  rw [Finset.sum_range, coe_sum]

/-- A sum over a contraction with one axis of extent `K`. -/
theorem sum_contr {sl sr so : Shape} (d : DotDims sl sr so) (K : ℕ) (hr : d.contr.rank = 1)
    (hs : d.contr.size ⟨0, by omega⟩ = K) (G : d.contr.Idx → EReal) (g : ℕ → ℝ)
    (h : ∀ k, G k = ((g (k ⟨0, by omega⟩).val : ℝ) : EReal)) :
    ∑ k, G k = ((∑ k ∈ Finset.range K, g k : ℝ) : EReal) := by
  rw [← Equiv.sum_comp (contrEquiv1 d K hr hs).symm, ← coe_sum_fin]
  refine Finset.sum_congr rfl fun k _ => ?_
  rw [h, contrEquiv1_symm_val d K hr hs]

/-- A matrix product into a zero accumulator. The index facts say which of the operands' coordinates is contracted. -/
theorem is2_matmul {a0 a1 b0 b1 M N : ℕ} {φ₁ φ₂ : FTy} (d : DotDims ⟨2, ![a0, a1]⟩ ⟨2, ![b0, b1]⟩ ⟨2, ![M, N]⟩) (K : ℕ)
    (hr : d.contr.rank = 1) (hs : d.contr.size ⟨0, by omega⟩ = K) {prec : Option ContractPrecision}
    {A : FVec Ideal ⟨2, ![a0, a1]⟩ φ₁} {B : FVec Ideal ⟨2, ![b0, b1]⟩ φ₂} {f g : ℕ → ℕ → ℝ} (hA : Is2 A f) (hB : Is2 B g)
    (L R : ℕ → ℕ → ℝ)
    (hl : ∀ j k, f (d.lhsIdx j k 0).val (d.lhsIdx j k 1).val = L (j 0).val (k ⟨0, by omega⟩).val)
    (hrr : ∀ j k, g (d.rhsIdx j k 0).val (d.rhsIdx j k 1).val = R (j 1).val (k ⟨0, by omega⟩).val) :
    Is2 (matmul d prec A B (constant (F := Ideal) ⟨2, ![M, N]⟩ .f32 0x00000000#32))
      (fun i j => ∑ k ∈ Finset.range K, L i k * R j k) := fun j => by
  simp only [matmul]
  rw [Ideal.matmul_constant_zero_apply]
  refine sum_contr d K hr hs _ (fun k => L (j 0).val k * R (j 1).val k) fun k => ?_
  rw [hA, hB, hl, hrr, EReal.coe_mul]

/-- A change of float format keeps the numbers. -/
theorem Is2.truncf {n m : ℕ} {φ : FTy} (ψ : FTy) {A : FVec Ideal ⟨2, ![n, m]⟩ φ} {f : ℕ → ℕ → ℝ} (h : ψ.bits < φ.bits)
    (hA : Is2 A f) : Is2 (truncf ψ A h) f := hA
/-- A change of float format keeps the numbers. -/
theorem Is2.extf {n m : ℕ} {φ : FTy} (ψ : FTy) {A : FVec Ideal ⟨2, ![n, m]⟩ φ} {f : ℕ → ℕ → ℝ} (h : φ.bits < ψ.bits)
    (hA : Is2 A f) : Is2 (extf ψ A h) f := hA

/-- The positive case of the reciprocal square root. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- A quotient of reals with a nonzero denominator. -/
theorem div_coe {a b : ℝ} (h : b ≠ 0) : Ideal.div (a : EReal) (b : EReal) = ((a / b : ℝ) : EReal) := by
  unfold Ideal.div
  rw [if_neg (by exact_mod_cast h), ← EReal.coe_inv, ← EReal.coe_mul, div_eq_mul_inv]

variable {n m : ℕ} {φ : FTy}

/-- Entrywise product. -/
theorem Is2.mulf {A B : FVec Ideal ⟨2, ![n, m]⟩ φ} {f g : ℕ → ℕ → ℝ} (hA : Is2 A f) (hB : Is2 B g) :
    Is2 (mulf A B) (fun a b => f a b * g a b) := fun i => by
  show A i * B i = _
  rw [hA i, hB i, EReal.coe_mul]
/-- Entrywise sum. -/
theorem Is2.addf {A B : FVec Ideal ⟨2, ![n, m]⟩ φ} {f g : ℕ → ℕ → ℝ} (hA : Is2 A f) (hB : Is2 B g) :
    Is2 (addf A B) (fun a b => f a b + g a b) := fun i => by
  show A i + B i = _
  rw [hA i, hB i, EReal.coe_add]
/-- Entrywise difference. -/
theorem Is2.subf {A B : FVec Ideal ⟨2, ![n, m]⟩ φ} {f g : ℕ → ℕ → ℝ} (hA : Is2 A f) (hB : Is2 B g) :
    Is2 (subf A B) (fun a b => f a b - g a b) := fun i => by
  show A i - B i = _
  rw [hA i, hB i, EReal.coe_sub]
/-- Entrywise quotient by nonzero reals. -/
theorem Is2.divf {A B : FVec Ideal ⟨2, ![n, m]⟩ φ} {f g : ℕ → ℕ → ℝ} (hA : Is2 A f) (hB : Is2 B g)
    (h : ∀ a b, a < n → b < m → g a b ≠ 0) : Is2 (divf A B) (fun a b => f a b / g a b) := fun i => by
  show Ideal.div (A i) (B i) = _
  rw [hA i, hB i, div_coe (h _ _ (idx2_lt0 i) (idx2_lt1 i))]
/-- Entrywise reciprocal square root of positive reals. -/
theorem Is2.rsqrt {A : FVec Ideal ⟨2, ![n, m]⟩ φ} {f : ℕ → ℕ → ℝ} (hA : Is2 A f) (h : ∀ a b, a < n → b < m → 0 < f a b) :
    Is2 (rsqrt A) (fun a b => (Real.sqrt (f a b))⁻¹) := fun i => by
  show Ideal.rsqrt (A i) = _
  rw [hA i, rsqrt_pos (h _ _ (idx2_lt0 i) (idx2_lt1 i))]
/-- Entrywise power of two. -/
theorem Is2.exp2 {A : FVec Ideal ⟨2, ![n, m]⟩ φ} {f : ℕ → ℕ → ℝ} (hA : Is2 A f) :
    Is2 (exp2 A) (fun a b => (2 : ℝ) ^ (f a b)) := fun i => by
  show Ideal.exp2 (A i) = _
  rw [hA i, Ideal.exp2_coe]
  rfl
/-- One number at every index. -/
theorem is2_broadcast {x : Ideal φ} {r : ℝ} (h : x = (r : EReal)) : Is2 (broadcast (⟨2, ![n, m]⟩ : Shape) x) (fun _ _ => r) := fun _ => h

/-- A column spread over the columns. -/
theorem Is2.bcastCol {A : FVec Ideal ⟨2, ![n, 1]⟩ φ} {f : ℕ → ℕ → ℝ} (hA : Is2 A f)
    (h : (⟨2, ![n, 1]⟩ : Shape).Broadcasts ⟨2, ![n, m]⟩) :
    Is2 (broadcastTo (⟨2, ![n, m]⟩ : Shape) A h) (fun a _ => f a 0) := fun i => by
  rw [broadcastTo_apply A h i (ix2 ⟨(i 0).val, idx2_lt0 i⟩ ⟨0, Nat.one_pos⟩) (fun a => by
    match a with
    | ⟨0, _⟩ =>
      by_cases h1 : n = 1
      · have := idx2_lt0 i
        show (i 0).val = if n = 1 then 0 else _
        rw [if_pos h1]; omega
      · show (i 0).val = if n = 1 then 0 else _
        rw [if_neg h1]; rfl
    | ⟨1, _⟩ => rfl)]
  exact hA _
/-- A row spread over the rows. -/
theorem Is2.bcastRow {A : FVec Ideal ⟨2, ![1, m]⟩ φ} {f : ℕ → ℕ → ℝ} (hA : Is2 A f)
    (h : (⟨2, ![1, m]⟩ : Shape).Broadcasts ⟨2, ![n, m]⟩) :
    Is2 (broadcastTo (⟨2, ![n, m]⟩ : Shape) A h) (fun _ b => f 0 b) := fun i => by
  rw [broadcastTo_apply A h i (ix2 ⟨0, Nat.one_pos⟩ ⟨(i 1).val, idx2_lt1 i⟩) (fun a => by
    match a with
    | ⟨0, _⟩ => rfl
    | ⟨1, _⟩ =>
      by_cases h1 : m = 1
      · have := idx2_lt1 i
        show (i 1).val = if m = 1 then 0 else _
        rw [if_pos h1]; omega
      · show (i 1).val = if m = 1 then 0 else _
        rw [if_neg h1]; rfl)]
  exact hA _

/-- A vector read as a column. -/
theorem Is1.col {A : FVec Ideal ⟨1, ![n]⟩ φ} {f : ℕ → ℝ} (hA : Is1 A f) (h : (⟨1, ![n]⟩ : Shape).ShapeCasts ⟨2, ![n, 1]⟩) :
    Is2 (shapeCast (⟨2, ![n, 1]⟩ : Shape) A h) (fun a _ => f a) := fun i => by
  rw [shapeCast_apply A h i (ix1 ⟨(i 0).val, idx2_lt0 i⟩) (by
    have := idx2_lt1 i
    rw [Shape.rowMajor_val_one, Shape.rowMajor_val_two]
    show (i 0).val = (i 0).val * 1 + (i 1).val
    omega)]
  exact hA _
/-- A vector read as a row. -/
theorem Is1.row {A : FVec Ideal ⟨1, ![n]⟩ φ} {f : ℕ → ℝ} (hA : Is1 A f) (h : (⟨1, ![n]⟩ : Shape).ShapeCasts ⟨2, ![1, n]⟩) :
    Is2 (shapeCast (⟨2, ![1, n]⟩ : Shape) A h) (fun _ b => f b) := fun i => by
  rw [shapeCast_apply A h i (ix1 ⟨(i 1).val, idx2_lt1 i⟩) (by
    have := idx2_lt0 i
    rw [Shape.rowMajor_val_one, Shape.rowMajor_val_two]
    show (i 1).val = (i 0).val * n + (i 1).val
    have : (i 0).val = 0 := by omega
    rw [this]; omega)]
  exact hA _

/-- Row sums. -/
theorem Is2.sumRows {A : FVec Ideal ⟨2, ![n, m]⟩ .f32} {f : ℕ → ℕ → ℝ} (hA : Is2 A f)
    (h : (⟨2, ![n, m]⟩ : Shape).Reduces [1] ⟨1, ![n]⟩) (hφ : FKind.Formats .f32) (hacc : 0x00000000#32 = FKind.add.neutral .f32 hφ)
    (hl : ∀ j k, ((h.lift j k) 0).val = (j 0).val ∧ ((h.lift j k) 1).val = k.val) :
    Is1 (multiReduction .add [1] ⟨1, ![n]⟩ A 0x00000000#32 h hφ hacc) (fun a => ∑ k ∈ Finset.range m, f a k) := fun j => by
  rw [Ideal.multiReduction_add_single]
  rw [← coe_sum_fin m (fun k => f (j 0).val k)]
  refine Finset.sum_congr rfl fun k _ => ?_
  rw [hA, (hl j k).1, (hl j k).2]
/-- Column sums. -/
theorem Is2.sumCols {A : FVec Ideal ⟨2, ![n, m]⟩ .f32} {f : ℕ → ℕ → ℝ} (hA : Is2 A f)
    (h : (⟨2, ![n, m]⟩ : Shape).Reduces [0] ⟨1, ![m]⟩) (hφ : FKind.Formats .f32) (hacc : 0x00000000#32 = FKind.add.neutral .f32 hφ)
    (hl : ∀ j k, ((h.lift j k) 0).val = k.val ∧ ((h.lift j k) 1).val = (j 0).val) :
    Is1 (multiReduction .add [0] ⟨1, ![m]⟩ A 0x00000000#32 h hφ hacc) (fun b => ∑ k ∈ Finset.range n, f k b) := fun j => by
  rw [Ideal.multiReduction_add_single]
  rw [← coe_sum_fin n (fun k => f k (j 0).val)]
  refine Finset.sum_congr rfl fun k _ => ?_
  rw [hA, (hl j k).1, (hl j k).2]

/-- A block of columns cut out. -/
theorem Is2.slice {k : ℕ} {A : FVec Ideal ⟨2, ![n, m]⟩ φ} {f : ℕ → ℕ → ℝ} (hA : Is2 A f) (o : ℕ)
    (h : (⟨2, ![n, m]⟩ : Shape).Slices ![0, o] ⟨2, ![n, k]⟩) :
    Is2 (extractStridedSlice (⟨2, ![n, k]⟩ : Shape) ![0, o] A h) (fun a b => f a (o + b)) := fun i => by
  have hb : o + (i 1).val < m := by
    have h2 := h.2 1
    have := idx2_lt1 i
    have h3 : o + k ≤ m := h2
    omega
  rw [extractStridedSlice_apply ![0, o] A h i (ix2 ⟨(i 0).val, idx2_lt0 i⟩ ⟨o + (i 1).val, hb⟩) (fun a => by
    match a with
    | ⟨0, _⟩ => exact (Nat.zero_add _).symm
    | ⟨1, _⟩ => rfl)]
  exact hA _
/-- Two arrays side by side. -/
theorem Is2.concat {k l : ℕ} {A : FVec Ideal ⟨2, ![n, k]⟩ φ} {B : FVec Ideal ⟨2, ![n, l]⟩ φ} {f g : ℕ → ℕ → ℝ} (hA : Is2 A f)
    (hB : Is2 B g) (h : Shape.Concatenates [⟨2, ![n, k]⟩, ⟨2, ![n, l]⟩] ⟨2, ![n, m]⟩ 1) :
    Is2 (concatenate (⟨2, ![n, m]⟩ : Shape) 1 [⟨⟨2, ![n, k]⟩, A⟩, ⟨⟨2, ![n, l]⟩, B⟩] h)
      (fun a b => if b < k then f a b else g a (b - k)) := fun i => by
  by_cases hlt : (i 1).val < k
  · show _ = (((if (i 1).val < k then f (i 0).val (i 1).val else g (i 0).val ((i 1).val - k)) : ℝ) : EReal)
    rw [if_pos hlt, concatenate_pair_apply_left 1 A B h i rfl (ix2 ⟨(i 0).val, idx2_lt0 i⟩ ⟨(i 1).val, hlt⟩) (fun b => by
      match b with
      | ⟨0, _⟩ => rfl
      | ⟨1, _⟩ => rfl)]
    exact hA _
  · have hm : k + (l + 0) = m := h.2.2
    have := idx2_lt1 i
    show _ = (((if (i 1).val < k then f (i 0).val (i 1).val else g (i 0).val ((i 1).val - k)) : ℝ) : EReal)
    rw [if_neg hlt, concatenate_pair_apply_right 1 A B h i rfl rfl (ix2 ⟨(i 0).val, idx2_lt0 i⟩ ⟨(i 1).val - k, by omega⟩) (fun b hb => by
      match b with
      | ⟨0, _⟩ => rfl
      | ⟨1, _⟩ => exact absurd rfl hb) (by
      show (i 1).val - k + k = (i 1).val
      omega)]
    exact hB _

/-- A choice between two arrays by the column. -/
theorem Is2.sel {c : IVec ⟨2, ![n, m]⟩ 1} {A B : FVec Ideal ⟨2, ![n, m]⟩ φ} {f g : ℕ → ℕ → ℝ} (hA : Is2 A f) (hB : Is2 B g)
    (p : ℕ → ℕ → Prop) [∀ a b, Decidable (p a b)] (hc : ∀ i, c i = BitVec.ofBool (decide (p (i 0).val (i 1).val))) :
    Is2 (select c A B) (fun a b => if p a b then f a b else g a b) := fun i => by
  show Scalar.select (c i) (A i) (B i) = _
  show _ = (((if p (i 0).val (i 1).val then f (i 0).val (i 1).val else g (i 0).val (i 1).val) : ℝ) : EReal)
  rw [hc i, WordCmp.select_decide, hA i, hB i]
  split <;> rfl

/-! ## The programs' float literals -/

theorem lit_512 : Ideal.ofBits .f32 0x44000000#32 = ((512 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee, -EReal.coe_mul]
theorem lit_two : Ideal.ofBits .f32 0x40000000#32 = ((2 : ℝ) : EReal) := by
  simp [Ideal.ofBits, Ideal.ieee, -EReal.coe_mul]; norm_num
theorem lit_neg_two : Ideal.ofBits .f32 0xC0000000#32 = ((-2 : ℝ) : EReal) := by
  simp [Ideal.ofBits, Ideal.ieee, -EReal.coe_mul]; norm_num
theorem lit_192 : Ideal.ofBits .f32 0x43400000#32 = ((192 : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num
theorem lit_10000 : Ideal.ofBits .f32 0x461C4000#32 = ((10000 : ℝ) : EReal) := by
  simp [Ideal.ofBits, Ideal.ieee, -EReal.coe_mul]; norm_num
theorem lit_eps : Ideal.ofBits .f32 0x358637BD#32 = ((eps : ℝ) : EReal) := by
  unfold eps; simp [Ideal.ofBits, Ideal.ieee, -EReal.coe_mul]; norm_num
theorem lit_shift : Ideal.ofBits .f32 0x41B8AA3B#32 = ((shift : ℝ) : EReal) := by
  unfold shift; simp [Ideal.ofBits, Ideal.ieee, -EReal.coe_mul]; norm_num
theorem lit_neg_inf : Ideal.ofBits .f32 0xFF800000#32 = ⊥ := by
  simp [Ideal.ofBits, Ideal.ieee, -EReal.coe_mul]
theorem lit_inf : Ideal.ofBits .f32 0x7F800000#32 = ⊤ := by
  simp [Ideal.ofBits, Ideal.ieee, -EReal.coe_mul]

end Cert.Val

end
-- ==== Proof.Value.Lat.lean ====
/-
  Arrays that may hold infinities, and the normalised latent, which holds none.
-/
module

public import proofs.«01_k».proof.Proof.Value.Rep

@[expose] public section

set_option maxRecDepth 16384

noncomputable section

namespace Cert.Val

open Idealize.ShloMosaic Idealize.ShloMosaic.ValueIdx
open scoped BigOperators

/-- The rank-1 array holds `g`, infinities allowed. -/
def E1 {n : ℕ} (A : (⟨1, ![n]⟩ : Shape).Idx → EReal) (g : ℕ → EReal) : Prop := ∀ i, A i = g (i 0).val
/-- The rank-2 array holds `g`, infinities allowed. -/
def E2 {n m : ℕ} (A : (⟨2, ![n, m]⟩ : Shape).Idx → EReal) (g : ℕ → ℕ → EReal) : Prop := ∀ i, A i = g (i 0).val (i 1).val
/-- The rank-3 array holds `g`, infinities allowed. -/
def E3 {n m k : ℕ} (A : (⟨3, ![n, m, k]⟩ : Shape).Idx → EReal) (g : ℕ → ℕ → ℕ → EReal) : Prop := ∀ i, A i = g (i 0).val (i 1).val (i 2).val

/-- Every rank-2 array holds something. -/
theorem E2.exists {n m : ℕ} (A : (⟨2, ![n, m]⟩ : Shape).Idx → EReal) : ∃ g, E2 A g :=
  ⟨fun a b => if h : a < n ∧ b < m then A (ix2 ⟨a, h.1⟩ ⟨b, h.2⟩) else 0, fun i => by
    have h0 : (i 0).val < n ∧ (i 1).val < m := ⟨idx2_lt0 i, idx2_lt1 i⟩
    show A i = if h : (i 0).val < n ∧ (i 1).val < m then A (ix2 ⟨(i 0).val, h.1⟩ ⟨(i 1).val, h.2⟩) else 0
    rw [dif_pos h0]
    exact congrArg A (eq_ix2 i)⟩
/-- A description carried along an equality of arrays. -/
theorem E2.of_eq {n m : ℕ} {A B : (⟨2, ![n, m]⟩ : Shape).Idx → EReal} {g : ℕ → ℕ → EReal} (h : E2 A g) (e : B = A) : E2 B g := e ▸ h

/-- Real rows of `x` against rows of `w`. -/
def linE (K : ℕ) (x : ℕ → ℕ → ℝ) (w : ℕ → ℕ → EReal) (n j : ℕ) : EReal := ∑ k : Fin K, (x n k.val : EReal) * w j k.val

/-- A matrix product into a zero accumulator, the left operand real. -/
theorem e2_matmul {a0 a1 b0 b1 M N : ℕ} {φ₁ φ₂ : FTy} (d : DotDims ⟨2, ![a0, a1]⟩ ⟨2, ![b0, b1]⟩ ⟨2, ![M, N]⟩) (K : ℕ)
    (hr : d.contr.rank = 1) (hs : d.contr.size ⟨0, by omega⟩ = K) {prec : Option ContractPrecision}
    {A : FVec Ideal ⟨2, ![a0, a1]⟩ φ₁} {B : FVec Ideal ⟨2, ![b0, b1]⟩ φ₂} {f : ℕ → ℕ → ℝ} {g : ℕ → ℕ → EReal} (hA : Is2 A f) (hB : E2 B g)
    (L : ℕ → ℕ → ℝ) (R : ℕ → ℕ → EReal)
    (hl : ∀ j k, f (d.lhsIdx j k 0).val (d.lhsIdx j k 1).val = L (j 0).val (k ⟨0, by omega⟩).val)
    (hrr : ∀ j k, g (d.rhsIdx j k 0).val (d.rhsIdx j k 1).val = R (j 1).val (k ⟨0, by omega⟩).val) :
    E2 (matmul d prec A B (constant (F := Ideal) ⟨2, ![M, N]⟩ .f32 0x00000000#32)) (linE K L R) := fun j => by
  simp only [matmul]
  rw [Ideal.matmul_constant_zero_apply, ← Equiv.sum_comp (contrEquiv1 d K hr hs).symm]
  refine Finset.sum_congr rfl fun k _ => ?_
  rw [hA, hB, hl, hrr, contrEquiv1_symm_val d K hr hs]

variable {n m : ℕ} {φ : FTy}

/-- Row sums. -/
theorem E2.sumRows {A : FVec Ideal ⟨2, ![n, m]⟩ .f32} {g : ℕ → ℕ → EReal} (hA : E2 A g)
    (h : (⟨2, ![n, m]⟩ : Shape).Reduces [1] ⟨1, ![n]⟩) (hφ : FKind.Formats .f32) (hacc : 0x00000000#32 = FKind.add.neutral .f32 hφ)
    (hl : ∀ j k, ((h.lift j k) 0).val = (j 0).val ∧ ((h.lift j k) 1).val = k.val) :
    E1 (multiReduction .add [1] ⟨1, ![n]⟩ A 0x00000000#32 h hφ hacc) (fun a => ∑ k : Fin m, g a k.val) := fun j => by
  rw [Ideal.multiReduction_add_single]
  refine Finset.sum_congr rfl fun k _ => ?_
  rw [hA, (hl j k).1, (hl j k).2]

/-- A vector read as a column. -/
theorem E1.col {A : FVec Ideal ⟨1, ![n]⟩ φ} {g : ℕ → EReal} (hA : E1 A g) (h : (⟨1, ![n]⟩ : Shape).ShapeCasts ⟨2, ![n, 1]⟩) :
    E2 (shapeCast (⟨2, ![n, 1]⟩ : Shape) A h) (fun a _ => g a) := fun i => by
  rw [shapeCast_apply A h i (ix1 ⟨(i 0).val, idx2_lt0 i⟩) (by
    have := idx2_lt1 i
    rw [Shape.rowMajor_val_one, Shape.rowMajor_val_two]
    show (i 0).val = (i 0).val * 1 + (i 1).val
    omega)]
  exact hA _

/-- The reciprocal root mean square of a row that may hold infinities. -/
def rmsE (c : ℕ → ℕ → EReal) (n : ℕ) : EReal := Ideal.rsqrt (Ideal.div (∑ l : Fin 512, c n l.val * c n l.val) ((512 : ℝ) : EReal) + (eps : EReal))
/-- It is a real number: 0 for a row with an infinity. -/
def rms (c : ℕ → ℕ → EReal) (n : ℕ) : ℝ := (rmsE c n).toReal

theorem sq_nonneg_ereal (x : EReal) : 0 ≤ x * x := by
  induction x using EReal.rec with
  | bot => simp
  | top => simp
  | coe r => exact_mod_cast mul_self_nonneg r

/-- A row with an infinity has the reciprocal root mean square 0. -/
theorem rmsE_of_top {c : ℕ → ℕ → EReal} {n : ℕ} (l : Fin 512) (h : c n l.val * c n l.val = ⊤) : rmsE c n = 0 := by
  have hs : ∑ l : Fin 512, c n l.val * c n l.val = ⊤ :=
    top_le_iff.1 (h ▸ Finset.single_le_sum (f := fun l : Fin 512 => c n l.val * c n l.val) (fun i _ => sq_nonneg_ereal _) (Finset.mem_univ l))
  have hd : Ideal.div ⊤ ((512 : ℝ) : EReal) = ⊤ := by
    show (if ((512 : ℝ) : EReal) = 0 then (if (0 : EReal) < ⊤ then (⊤ : EReal) else ⊥) else ⊤ * ((512 : ℝ) : EReal)⁻¹) = ⊤
    rw [if_neg (by exact_mod_cast (by norm_num : (512 : ℝ) ≠ 0)), ← EReal.coe_inv, EReal.top_mul_coe_of_pos (by norm_num)]
  show Ideal.rsqrt (Ideal.div (∑ l : Fin 512, c n l.val * c n l.val) ((512 : ℝ) : EReal) + (eps : EReal)) = 0
  rw [hs, hd, EReal.top_add_coe, Ideal.rsqrt_top]

/-- A row of reals has a real reciprocal root mean square. -/
theorem rmsE_of_real {c : ℕ → ℕ → EReal} {n : ℕ} (f : ℕ → ℝ) (h : ∀ l : Fin 512, c n l.val = (f l.val : EReal)) : ∃ r : ℝ, rmsE c n = (r : EReal) := by
  have hs : ∑ l : Fin 512, c n l.val * c n l.val = ((∑ l ∈ Finset.range 512, f l * f l : ℝ) : EReal) := by
    rw [← coe_sum_fin 512 (fun l => f l * f l)]
    exact Finset.sum_congr rfl fun l _ => by rw [h l, EReal.coe_mul]
  refine ⟨(Real.sqrt ((∑ l ∈ Finset.range 512, f l * f l) / 512 + eps))⁻¹, ?_⟩
  show Ideal.rsqrt (Ideal.div (∑ l : Fin 512, c n l.val * c n l.val) ((512 : ℝ) : EReal) + (eps : EReal)) = _
  rw [hs, div_coe (by norm_num), ← EReal.coe_add]
  exact rsqrt_pos (add_pos_of_nonneg_of_pos (div_nonneg (Finset.sum_nonneg fun _ _ => mul_self_nonneg _) (by norm_num)) eps_pos)

/-- Either every entry of the row is real, or one of them squares to infinity. -/
theorem row_cases (c : ℕ → ℕ → EReal) (n : ℕ) : (∃ f : ℕ → ℝ, ∀ l : Fin 512, c n l.val = (f l.val : EReal)) ∨ ∃ l : Fin 512, c n l.val * c n l.val = ⊤ := by
  by_cases h : ∃ l : Fin 512, c n l.val * c n l.val = ⊤
  · exact Or.inr h
  · refine Or.inl ⟨fun l => (c n l).toReal, fun l => (EReal.coe_toReal (fun e => h ⟨l, ?_⟩) (fun e => h ⟨l, ?_⟩)).symm⟩
    · rw [e]; simp
    · rw [e]; simp

theorem rms_coe (c : ℕ → ℕ → EReal) (n : ℕ) : rmsE c n = (rms c n : EReal) := by
  have hr : ∃ r : ℝ, rmsE c n = (r : EReal) := by
    rcases row_cases c n with ⟨f, hf⟩ | ⟨l, hl⟩
    · exact rmsE_of_real f hf
    · exact ⟨0, (rmsE_of_top l hl).trans EReal.coe_zero.symm⟩
  obtain ⟨r, hr⟩ := hr
  show rmsE c n = ((rmsE c n).toReal : EReal)
  rw [hr, EReal.toReal_coe]

/-- The normalised latent. A row with an infinity normalises to zero, so every entry is real. -/
def cnorm (c : ℕ → ℕ → EReal) (nw : ℕ → ℝ) (n l : ℕ) : ℝ := (c n l * (rms c n : EReal) * (nw l : EReal)).toReal
theorem cnorm_coe (c : ℕ → ℕ → EReal) (nw : ℕ → ℝ) (n : ℕ) {l : ℕ} (hl : l < 512) :
    c n l * (rms c n : EReal) * (nw l : EReal) = (cnorm c nw n l : EReal) := by
  have hr : ∃ r : ℝ, c n l * (rms c n : EReal) * (nw l : EReal) = (r : EReal) := by
    rcases row_cases c n with ⟨f, hf⟩ | ⟨k, hk⟩
    · exact ⟨f l * rms c n * nw l, by rw [hf ⟨l, hl⟩, ← EReal.coe_mul, ← EReal.coe_mul]⟩
    · exact ⟨0, by rw [← rms_coe, rmsE_of_top k hk, mul_zero, zero_mul, EReal.coe_zero]⟩
  obtain ⟨r, hr⟩ := hr
  show c n l * (rms c n : EReal) * (nw l : EReal) = ((c n l * (rms c n : EReal) * (nw l : EReal)).toReal : EReal)
  rw [hr, EReal.toReal_coe]

end Cert.Val

end
-- ==== Proof.Value.Rep2.lean ====
/-
  More readings of arrays as real functions: products summed, finite arrays, and the rotary angles.
-/
module

public import proofs.«01_k».proof.Proof.Value.Lat

@[expose] public section

noncomputable section

namespace Cert.Val

open Idealize.ShloMosaic Idealize.ShloMosaic.ValueIdx
open scoped BigOperators

/-- A sum of products of reals. -/
theorem sum_mul_coe {K : ℕ} {A B : Fin K → EReal} (f g : ℕ → ℝ) (hA : ∀ k, A k = ((f k.val : ℝ) : EReal)) (hB : ∀ k, B k = ((g k.val : ℝ) : EReal)) :
    ∑ k, A k * B k = ((∑ k ∈ Finset.range K, f k * g k : ℝ) : EReal) := by
  rw [← coe_sum_fin K (fun k => f k * g k)]
  refine Finset.sum_congr rfl fun k _ => ?_
  rw [hA k, hB k, EReal.coe_mul]

/-- A sum of reals. -/
theorem sum_fin_coe {K : ℕ} {A : Fin K → EReal} (f : ℕ → ℝ) (hA : ∀ k, A k = ((f k.val : ℝ) : EReal)) :
    ∑ k, A k = ((∑ k ∈ Finset.range K, f k : ℝ) : EReal) := by
  rw [← coe_sum_fin K f]
  exact Finset.sum_congr rfl fun k _ => hA k

/-- An array of reals is described by a real function. -/
theorem Is1.of_real {n : ℕ} {A : (⟨1, ![n]⟩ : Shape).Idx → EReal} (h : ∀ i, ∃ r : ℝ, A i = (r : EReal)) : ∃ f, Is1 A f := by
  choose g hg using h
  refine ⟨fun a => if ha : a < n then g (ix1 ⟨a, ha⟩) else 0, fun i => ?_⟩
  have h0 : (i 0).val < n := (i 0).isLt
  show A i = (((if ha : (i 0).val < n then g (ix1 ⟨(i 0).val, ha⟩) else 0) : ℝ) : EReal)
  rw [dif_pos h0, ← hg]
  exact congrArg A (eq_ix1 i)
/-- An array of reals is described by a real function. -/
theorem Is2.of_real {n m : ℕ} {A : (⟨2, ![n, m]⟩ : Shape).Idx → EReal} (h : ∀ i, ∃ r : ℝ, A i = (r : EReal)) : ∃ f, Is2 A f := by
  choose g hg using h
  refine ⟨fun a b => if ha : a < n ∧ b < m then g (ix2 ⟨a, ha.1⟩ ⟨b, ha.2⟩) else 0, fun i => ?_⟩
  have h0 : (i 0).val < n ∧ (i 1).val < m := ⟨(i 0).isLt, (i 1).isLt⟩
  show A i = (((if ha : (i 0).val < n ∧ (i 1).val < m then g (ix2 ⟨(i 0).val, ha.1⟩ ⟨(i 1).val, ha.2⟩) else 0) : ℝ) : EReal)
  rw [dif_pos h0, ← hg]
  exact congrArg A (eq_ix2 i)
/-- An array of reals is described by a real function. -/
theorem Is3.of_real {n m k : ℕ} {A : (⟨3, ![n, m, k]⟩ : Shape).Idx → EReal} (h : ∀ i, ∃ r : ℝ, A i = (r : EReal)) : ∃ f, Is3 A f := by
  choose g hg using h
  refine ⟨fun a b c => if ha : a < n ∧ b < m ∧ c < k then g (ix3 ⟨a, ha.1⟩ ⟨b, ha.2.1⟩ ⟨c, ha.2.2⟩) else 0, fun i => ?_⟩
  have h0 : (i 0).val < n ∧ (i 1).val < m ∧ (i 2).val < k := ⟨(i 0).isLt, (i 1).isLt, (i 2).isLt⟩
  show A i = (((if ha : (i 0).val < n ∧ (i 1).val < m ∧ (i 2).val < k then g (ix3 ⟨(i 0).val, ha.1⟩ ⟨(i 1).val, ha.2.1⟩ ⟨(i 2).val, ha.2.2⟩) else 0) : ℝ) : EReal)
  rw [dif_pos h0, ← hg]
  exact congrArg A (eq_ix3 i)

/-- Two rank-4 arrays joined along the last axis. -/
theorem Is4.concat {n m p k l r : ℕ} {φ : FTy} {A : FVec Ideal ⟨4, ![n, m, p, k]⟩ φ} {B : FVec Ideal ⟨4, ![n, m, p, l]⟩ φ} {f g : ℕ → ℕ → ℕ → ℕ → ℝ}
    (hA : Is4 A f) (hB : Is4 B g) (h : Shape.Concatenates [⟨4, ![n, m, p, k]⟩, ⟨4, ![n, m, p, l]⟩] ⟨4, ![n, m, p, r]⟩ 3) :
    Is4 (concatenate (⟨4, ![n, m, p, r]⟩ : Shape) 3 [⟨⟨4, ![n, m, p, k]⟩, A⟩, ⟨⟨4, ![n, m, p, l]⟩, B⟩] h)
      (fun a b c d => if d < k then f a b c d else g a b c (d - k)) := fun i => by
  have h0 : (i 0).val < n := (i 0).isLt
  have h1 : (i 1).val < m := (i 1).isLt
  have h2 : (i 2).val < p := (i 2).isLt
  have h3 : (i 3).val < r := (i 3).isLt
  show _ = (((if (i 3).val < k then f (i 0).val (i 1).val (i 2).val (i 3).val else g (i 0).val (i 1).val (i 2).val ((i 3).val - k)) : ℝ) : EReal)
  by_cases hlt : (i 3).val < k
  · rw [if_pos hlt, concatenate_pair_apply_left 3 A B h i rfl (ix4 ⟨(i 0).val, h0⟩ ⟨(i 1).val, h1⟩ ⟨(i 2).val, h2⟩ ⟨(i 3).val, hlt⟩) (fun b => by
      match b with
      | ⟨0, _⟩ => rfl
      | ⟨1, _⟩ => rfl
      | ⟨2, _⟩ => rfl
      | ⟨3, _⟩ => rfl)]
    exact hA _
  · have hm : k + (l + 0) = r := h.2.2
    rw [if_neg hlt, concatenate_pair_apply_right 3 A B h i rfl rfl (ix4 ⟨(i 0).val, h0⟩ ⟨(i 1).val, h1⟩ ⟨(i 2).val, h2⟩ ⟨(i 3).val - k, by omega⟩) (fun b hb => by
      match b with
      | ⟨0, _⟩ => rfl
      | ⟨1, _⟩ => rfl
      | ⟨2, _⟩ => rfl
      | ⟨3, _⟩ => exact absurd rfl hb) (by
      show (i 3).val - k + k = (i 3).val
      omega)]
    exact hB _

/-- The rotary angle at a position and a column. -/
def ang (s j : ℕ) : ℝ := (s : ℝ) * Real.exp ((j % 32 : ℕ) * (-2 * Real.log 10000 / 64))
/-- The angle repeats every 32 columns. -/
theorem ang_mod {s j k : ℕ} (h : j % 32 = k % 32) : ang s j = ang s k := by
  unfold ang
  rw [h]
/-- The frequency as a reciprocal power. -/
theorem freq_eq (i : ℕ) : (1 : ℝ) / (10000 : ℝ) ^ ((0 + 2 * (i : ℝ)) / 64) = Real.exp ((i : ℝ) * (-2 * Real.log 10000 / 64)) := by
  rw [Real.rpow_def_of_pos (by norm_num), one_div, ← Real.exp_neg]
  congr 1
  ring
/-- A small natural number's signed reading. -/
theorem toInt_small {n : ℕ} (h : n < 2 ^ 31) : ((BitVec.ofNat 32 n).toInt : ℝ) = (n : ℝ) := by
  have : (BitVec.ofNat 32 n).toInt = (n : ℤ) := by
    rw [BitVec.toInt_eq_toNat_cond, BitVec.toNat_ofNat, Nat.mod_eq_of_lt (by omega)]
    rw [if_pos (by omega)]
  rw [this]
  norm_num

end Cert.Val

end
-- ==== Proof.Value.Pre.lean ====
/-
  What the precondition says: every element of the six arrays it names is a real number, and the offset is zero.
-/
module

public import proofs.«01_k».proof.Pre_finite_inputs
public import proofs.«01_k».proof.Proof.Value.Rep2
public import Idealize.ShloMosaic.Lib.ReduceAll

@[expose] public section

set_option maxRecDepth 16384

noncomputable section

namespace Cert.Val

open Idealize.ShloMosaic Idealize.ShloMosaic.ValueIdx Idealize.ShloMosaic.TcCoe
open Cert.Pre_finite_inputs

/-- The shape relations of the precondition's operations. -/
theorem preFacts : Cert.Pre_finite_inputs.Facts where
  bcast_S_S2x2048x2048 := by decide
  reducesTo_S2x2048x2048_S_d0_1_2 := by decide
  h_S_ := by decide
  bcast_S_S1024x2048 := by decide
  reducesTo_S1024x2048_S_d0_1 := by decide
  bcast_S_S3072x2048 := by decide
  reducesTo_S3072x2048_S_d0_1 := by decide
  bcast_S_S2048x512 := by decide
  reducesTo_S2048x512_S_d0_1 := by decide
  bcast_S_S512 := by decide
  reducesTo_S512_S_d0 := by decide

/-- An extended real whose absolute value lies below infinity is a real number. -/
theorem real_of_lt (x : EReal) (h : max x (-x) < ⊤) : ∃ r : ℝ, x = (r : EReal) := by
  induction x using EReal.rec with
  | bot => simp at h
  | top => simp at h
  | coe r => exact ⟨r, rfl⟩

instance : Subsingleton S_.Idx := ⟨fun a b => funext fun k => k.elim0⟩

/-- One conjunct of the precondition. -/
theorem all_real {s : Shape} {axes : List (Fin s.rank)} (A : FVec Ideal s .f32) (hb : S_.BroadcastsInDim s (![] : Fin 0 → Fin s.rank)) (hr : s.ReducesTo axes S_)
    (hu : 0 < S_.numel) (j : S_.Idx)
    (h : Host.reduce IntOp.andi (cmpf .olt (Host.absf A) (broadcastInDim s ![] hb (constant (F := Ideal) S_ .f32 0x7F800000#32))) (constantI S_ 1 1#1) hr hu j = 1#1) :
    ∀ i, ∃ r : ℝ, (A i : EReal) = (r : EReal) := fun i => by
  have e := Host.reduce_andi_all _ _ hr hu j h i
  have e' : BitVec.ofBool (decide (max (A i : EReal) (-(A i : EReal)) < Ideal.ofBits .f32 0x7F800000#32)) = 1#1 := e
  rw [lit_inf, WordCmp.ofBool_decide_eq_one_iff] at e'
  exact real_of_lt _ e'

/-- The precondition read back. -/
theorem pre_read [Cert.Pre_finite_inputs.Facts] (a0 : FVec Ideal S2x2048x2048 .f32) (a1 : FVec Ideal S512x2048 .f32) (a2 : FVec Ideal S1024x2048 .f32) (a3 : FVec Ideal S3072x2048 .f32) (a4 : FVec Ideal S2048x512 .f32) (a5 : FVec Ideal S2048x512 .f32) (a6 : FVec Ideal S2048x2048 .f32) (a7 : FVec Ideal S512 .f32) (a8 : IVec S_ 32)
    (h : Cert.Pre_finite_inputs.fn (F := Ideal) a0 a1 a2 a3 a4 a5 a6 a7 a8 = fun _ => 1#1) :
    (∀ i, ∃ r : ℝ, (a0 i : EReal) = (r : EReal)) ∧ (∀ i, ∃ r : ℝ, (a2 i : EReal) = (r : EReal)) ∧ (∀ i, ∃ r : ℝ, (a3 i : EReal) = (r : EReal)) ∧ (∀ i, ∃ r : ℝ, (a4 i : EReal) = (r : EReal)) ∧ (∀ i, ∃ r : ℝ, (a5 i : EReal) = (r : EReal)) ∧ (∀ i, ∃ r : ℝ, (a7 i : EReal) = (r : EReal)) ∧ ∀ i, a8 i = 0#32 := by
  have hj := congrFun h (fun k => k.elim0)
  dsimp only [Cert.Pre_finite_inputs.fn, Cert.Pre_finite_inputs.fn_part1] at hj
  obtain ⟨q8, h8⟩ := (IntOp.andi_eq_one).1 hj
  clear hj h
  obtain ⟨q7, h7⟩ := (IntOp.andi_eq_one).1 q8
  clear q8
  obtain ⟨q5, h5⟩ := (IntOp.andi_eq_one).1 q7
  clear q7
  obtain ⟨q4, h4⟩ := (IntOp.andi_eq_one).1 q5
  clear q5
  obtain ⟨q3, h3⟩ := (IntOp.andi_eq_one).1 q4
  clear q4
  obtain ⟨q2, h2⟩ := (IntOp.andi_eq_one).1 q3
  clear q3
  refine ⟨all_real a0 _ _ _ _ q2, all_real a2 _ _ _ _ h2, all_real a3 _ _ _ _ h3, all_real a4 _ _ _ _ h4, all_real a5 _ _ _ _ h5, all_real a7 _ _ _ _ h7, fun i => ?_⟩
  rw [show i = (fun k => k.elim0) from Subsingleton.elim _ _]
  have e : IntOp.cmpi .eq (a8 fun k => k.elim0) 0#32 = 1#1 := h8
  rwa [WordCmp.cmpi_eq_eq, WordCmp.ofBool_decide_eq_one_iff] at e

end Cert.Val

end
-- ==== Proof.Frames.lean ====
/-
  The claims about single programs: each of the three programs runs to the end, leaves its arguments as they were
  and every semaphore counter at zero; and the two named constants lie within rounding of what they stand for.
-/
module

public import proofs.«01_k».proof.Defs
public import proofs.«01_k».proof.Proof.Kernel.Run
public import proofs.«01_k».proof.Proof.KernelIdeal.Run
public import proofs.«01_k».proof.Proof.Gen.ReferenceIdeal.Run
public import proofs.«01_k».proof.Proof.Value.Pre

@[expose] public section

noncomputable section

namespace Cert.Proof

open Idealize.ShloMosaic Idealize.SL.Sem

/-- The printed kernel runs, keeps its arguments and returns every counter to zero. -/
theorem frame_kernel : @Cert.quiescent_Kernel Cert.Kernel.Gen.facts := fun m g _ =>
  (θ_run _ _ _).mono (fun _ h => ⟨fun c => (h.1 c).2, h.2⟩) (Cert.Kernel.Own.run m g)

/-- The idealized kernel runs, keeps its arguments and returns every counter to zero. -/
theorem frame_kernelIdeal : @Cert.quiescent_KernelIdeal Cert.KernelIdeal.Gen.facts := fun m g _ =>
  (θ_run _ _ _).mono (fun _ h => ⟨fun c => (h.1 c).2, h.2⟩) (Cert.KernelIdeal.Own.run m g)

/-- The reference runs and keeps its arguments; it has no semaphores at all. -/
theorem frame_referenceIdeal : @Cert.quiescent_ReferenceIdeal Cert.ReferenceIdeal.Gen.facts := fun m g _ =>
  (θ_run _ _ _).mono (fun r h => ⟨fun c => (h c).2, sem_eq_zero_of_no_sems rfl r.2⟩) (Cert.ReferenceIdeal.Value.run m g)

/-- The idealized kernel's frame under the precondition: the same run. -/
theorem frame_kernelIdeal_pre : @Cert.quiescent_KernelIdeal_pre_finite_inputs Cert.KernelIdeal.Gen.facts Cert.Val.preFacts := fun m g _ =>
  (θ_run _ _ _).mono (fun _ h => ⟨fun c => (h.1 c).2, h.2⟩) (Cert.KernelIdeal.Own.run m g)

/-- The reference's frame under the precondition: the same run. -/
theorem frame_referenceIdeal_pre : @Cert.quiescent_ReferenceIdeal_pre_finite_inputs Cert.ReferenceIdeal.Gen.facts Cert.Val.preFacts := fun m g _ =>
  (θ_run _ _ _).mono (fun r h => ⟨fun c => (h c).2, sem_eq_zero_of_no_sems rfl r.2⟩) (Cert.ReferenceIdeal.Value.run m g)

/-- The two named constants: the score scale and the mask. -/
theorem preserves : Cert.preserves_Kernel_KernelIdeal :=
  ⟨IdealRules.named_const.statement Cert.KernelIdeal.κ "score_scale" .f32 0x3DD53B95#32
      (((Real.sqrt 192)⁻¹ * (Real.log 2)⁻¹ : ℝ) : EReal) rfl,
   IdealRules.named_const.statement Cert.KernelIdeal.κ "mask" .f32 0xF149F2CA#32 ⊥ rfl⟩

end Cert.Proof

end
-- ==== Proof.Value.HostTables.lean ====
/-
  The rotary tables the host builds between the regions, and the host's reshapes.
-/
module

public import proofs.«01_k».proof.Proof.Value.Rep2
public import proofs.«01_k».proof.Proof.KernelIdeal.Run

@[expose] public section

set_option maxRecDepth 16384

noncomputable section

namespace Cert.Val

open Idealize.ShloMosaic Idealize.ShloMosaic.ValueIdx Idealize.ShloMosaic.TcCoe
open Cert.KernelIdeal Cert.KernelIdeal.Gen Cert.KernelIdeal.Own
open scoped BigOperators

/-- The frequencies. -/
def freqT : FVec Ideal S32 .f32 :=
  Host.exp (mulf (sitofp .f32 (iotaInDim S32 32 0)) (broadcastInDim S32 ![] bcast_S_S32
    (Host.divf (mulf (constant (F := Ideal) S_ .f32 0xC0000000#32) (Host.log (constant (F := Ideal) S_ .f32 0x461C4000#32))) (constant (F := Ideal) S_ .f32 0x42800000#32))))
/-- The positions. -/
def posT (o : IVec S_ 32) : FVec Ideal S2048 .f32 :=
  addf (sitofp .f32 (iotaInDim S2048 32 0)) (broadcastInDim S2048 ![] bcast_S_S2048 (sitofp (F := Ideal) .f32 o))
/-- Positions times frequencies. -/
def outerT (o : IVec S_ 32) : FVec Ideal S2048x32 .f32 :=
  mulf (broadcastInDim S2048x32 ![0, 1] bcast_S2048x1_S2048x32_0_1 (broadcastInDim S2048x1 ![0] bcast_S2048_S2048x1_0 (posT o)))
    (broadcastInDim S2048x32 ![0, 1] bcast_S1x32_S2048x32_0_1 (broadcastInDim S1x32 ![1] bcast_S32_S1x32_1 freqT))
/-- The angles of one head. -/
def headT (o : IVec S_ 32) : FVec Ideal S2048x64 .f32 :=
  concatenate S2048x64 1 [⟨S2048x32, outerT o⟩, ⟨S2048x32, outerT o⟩] concatenates_S2048x32_S2048x32_S2048x64_d1
/-- The angles of all heads. -/
def angT (o : IVec S_ 32) : FVec Ideal S2048x1024 .f32 :=
  shapeCast S2048x1024 (broadcastInDim S1x2048x16x64 ![0, 1, 2, 3] bcast_S1x2048x1x64_S1x2048x16x64_0_1_2_3
    (shapeCast S1x2048x1x64 (headT o) shapeCasts_S2048x64_S1x2048x1x64)) shapeCasts_S1x2048x16x64_S2048x1024

theorem freqT_is : Is1 (n := 32) freqT (fun i => Real.exp ((i : ℝ) * (-2 * Real.log 10000 / 64))) := fun i => by
  have hi : (i 0).val < 32 := (i 0).isLt
  show Ideal.exp (((((BitVec.ofNat 32 (i 0).val).toInt : ℝ)) : EReal) * Ideal.div (Ideal.ofBits .f32 0xC0000000#32 * Ideal.log (Ideal.ofBits .f32 0x461C4000#32)) (Ideal.ofBits .f32 0x42800000#32)) = _
  rw [toInt_small (by omega), lit_neg_two, lit_10000, lit_64, Ideal.log_coe, if_neg (by norm_num), ← EReal.coe_mul, div_coe (by norm_num), ← EReal.coe_mul, Ideal.exp_coe]

theorem posT_is {o : IVec S_ 32} (ho : ∀ i, o i = 0#32) : Is1 (n := 2048) (posT o) (fun s => (s : ℝ)) := fun i => by
  have hi : (i 0).val < 2048 := (i 0).isLt
  have e : broadcastInDim S2048 ![] bcast_S_S2048 (sitofp (F := Ideal) .f32 o) i = ((0 : ℝ) : EReal) := by
    show (((o _).toInt : ℝ) : EReal) = _
    rw [ho]
    norm_num
  show ((((BitVec.ofNat 32 (i 0).val).toInt : ℝ)) : EReal) + broadcastInDim S2048 ![] bcast_S_S2048 (sitofp (F := Ideal) .f32 o) i = _
  rw [e, toInt_small (by omega), ← EReal.coe_add, add_zero]

theorem outerT_is {o : IVec S_ 32} (ho : ∀ i, o i = 0#32) : Is2 (n := 2048) (m := 32) (outerT o) ang := fun i => by
  have h0 : (i 0).val < 2048 := (i 0).isLt
  have h1 : (i 1).val < 32 := (i 1).isLt
  show broadcastInDim S2048x32 ![0, 1] bcast_S2048x1_S2048x32_0_1 (broadcastInDim S2048x1 ![0] bcast_S2048_S2048x1_0 (posT o)) i
    * broadcastInDim S2048x32 ![0, 1] bcast_S1x32_S2048x32_0_1 (broadcastInDim S1x32 ![1] bcast_S32_S1x32_1 freqT) i = _
  rw [broadcastInDim_apply ![0, 1] bcast_S2048x1_S2048x32_0_1 _ i (ix2 ⟨(i 0).val, h0⟩ ⟨0, Nat.one_pos⟩) (fun a => by
      match a with
      | ⟨0, _⟩ => rfl
      | ⟨1, _⟩ => rfl),
    broadcastInDim_apply ![0] bcast_S2048_S2048x1_0 _ _ (ix1 ⟨(i 0).val, h0⟩) (fun a => by
      match a with
      | ⟨0, _⟩ => rfl),
    broadcastInDim_apply ![0, 1] bcast_S1x32_S2048x32_0_1 _ i (ix2 ⟨0, Nat.one_pos⟩ ⟨(i 1).val, h1⟩) (fun a => by
      match a with
      | ⟨0, _⟩ => rfl
      | ⟨1, _⟩ => rfl),
    broadcastInDim_apply ![1] bcast_S32_S1x32_1 _ _ (ix1 ⟨(i 1).val, h1⟩) (fun a => by
      match a with
      | ⟨0, _⟩ => rfl),
    posT_is ho, freqT_is, ← EReal.coe_mul]
  show _ = ((ang (i 0).val (i 1).val : ℝ) : EReal)
  unfold ang
  rw [Nat.mod_eq_of_lt h1]

theorem headT_is {o : IVec S_ 32} (ho : ∀ i, o i = 0#32) : Is2 (n := 2048) (m := 64) (headT o) ang :=
  (Is2.concat (φ := .f32) (outerT_is ho) (outerT_is ho) concatenates_S2048x32_S2048x32_S2048x64_d1).congr fun a b _ hb => by
    split
    · rfl
    · exact ang_mod (by omega)

theorem angT_is {o : IVec S_ 32} (ho : ∀ i, o i = 0#32) : Is2 (n := 2048) (m := 1024) (angT o) ang := fun i => by
  have h0 : (i 0).val < 2048 := (i 0).isLt
  have h1 : (i 1).val < 1024 := (i 1).isLt
  unfold angT
  rw [shapeCast_apply _ shapeCasts_S1x2048x16x64_S2048x1024 i (ix4 ⟨0, Nat.one_pos⟩ ⟨(i 0).val, h0⟩ ⟨(i 1).val / 64, by omega⟩ ⟨(i 1).val % 64, by omega⟩) (by
      rw [Shape.rowMajor_val_four, Shape.rowMajor_val_two]
      show (((0 * 2048 + (i 0).val) * 16 + (i 1).val / 64) * 64 + (i 1).val % 64) = (i 0).val * 1024 + (i 1).val
      omega),
    broadcastInDim_apply ![0, 1, 2, 3] bcast_S1x2048x1x64_S1x2048x16x64_0_1_2_3 _ _ (ix4 ⟨0, Nat.one_pos⟩ ⟨(i 0).val, h0⟩ ⟨0, Nat.one_pos⟩ ⟨(i 1).val % 64, by omega⟩) (fun a => by
      match a with
      | ⟨0, _⟩ => rfl
      | ⟨1, _⟩ => rfl
      | ⟨2, _⟩ => rfl
      | ⟨3, _⟩ => rfl),
    shapeCast_apply _ shapeCasts_S2048x64_S1x2048x1x64 _ (ix2 ⟨(i 0).val, h0⟩ ⟨(i 1).val % 64, by omega⟩) (by
      rw [Shape.rowMajor_val_four, Shape.rowMajor_val_two]
      show (i 0).val * 64 + (i 1).val % 64 = (((0 * 2048 + (i 0).val) * 1 + 0) * 64 + (i 1).val % 64)
      omega), headT_is ho]
  exact congrArg _ (ang_mod (by
    show (i 1).val % 64 % 32 = (i 1).val % 32
    omega))

variable (V : Valuation τ sig (Elt Ideal))

/-- The cosine table. -/
theorem host2_cos : (StableHlo.after hostOps2 V (Proc.devRef .tc main_v28) : FVec Ideal S2048x1024 .bf16)
    = truncf .bf16 (Host.cos (angT (V (Proc.devRef .tc main_arg8)))) bitsLt_bf16_f32 := by
  after_results
  rfl
/-- The sine table. -/
theorem host2_sin : (StableHlo.after hostOps2 V (Proc.devRef .tc main_v30) : FVec Ideal S2048x1024 .bf16)
    = truncf .bf16 (Host.sin (angT (V (Proc.devRef .tc main_arg8)))) bitsLt_bf16_f32 := by
  after_results
  rfl

theorem host2_cos_is (ho : ∀ i, (V (Proc.devRef .tc main_arg8) : IVec S_ 32) i = 0#32) :
    Is2 (n := 2048) (m := 1024) (StableHlo.after hostOps2 V (Proc.devRef .tc main_v28)) (fun s j => Real.cos (ang s j)) := fun i => by
  rw [host2_cos]
  show Ideal.cos (angT (V (Proc.devRef .tc main_arg8)) i) = _
  rw [angT_is ho i, Ideal.cos_coe]
theorem host2_sin_is (ho : ∀ i, (V (Proc.devRef .tc main_arg8) : IVec S_ 32) i = 0#32) :
    Is2 (n := 2048) (m := 1024) (StableHlo.after hostOps2 V (Proc.devRef .tc main_v30)) (fun s j => Real.sin (ang s j)) := fun i => by
  rw [host2_sin]
  show Ideal.sin (angT (V (Proc.devRef .tc main_arg8)) i) = _
  rw [angT_is ho i, Ideal.sin_coe]

/-- The flattened rows. -/
theorem host0_x {X : ℕ → ℕ → ℝ} (h : Is3 (n := 2) (m := 2048) (k := 2048) (V (Proc.devRef .tc main_arg0)) (fun b s d => X (b * 2048 + s) d)) :
    Is2 (n := 4096) (m := 2048) (StableHlo.after hostOps0 V (Proc.devRef .tc main_v1)) X := fun i => by
  have h0 : (i 0).val < 4096 := (i 0).isLt
  have h1 : (i 1).val < 2048 := (i 1).isLt
  have e : (StableHlo.after hostOps0 V (Proc.devRef .tc main_v1) : FVec Ideal S4096x2048 .bf16)
      = truncf (F := Ideal) (φ := .f32) .bf16 (shapeCast S4096x2048 (V (Proc.devRef .tc main_arg0) : FVec Ideal S2x2048x2048 .f32) shapeCasts_S2x2048x2048_S4096x2048) bitsLt_bf16_f32 := by
    after_results
    rfl
  rw [e]
  show shapeCast S4096x2048 (V (Proc.devRef .tc main_arg0) : FVec Ideal S2x2048x2048 .f32) shapeCasts_S2x2048x2048_S4096x2048 i = _
  rw [shapeCast_apply _ shapeCasts_S2x2048x2048_S4096x2048 i (ix3 ⟨(i 0).val / 2048, by omega⟩ ⟨(i 0).val % 2048, by omega⟩ ⟨(i 1).val, h1⟩) (by
      rw [Shape.rowMajor_val_three, Shape.rowMajor_val_two]
      show ((i 0).val / 2048 * 2048 + (i 0).val % 2048) * 2048 + (i 1).val = (i 0).val * 2048 + (i 1).val
      omega)]
  refine (h _).trans ?_
  show ((X ((i 0).val / 2048 * 2048 + (i 0).val % 2048) (i 1).val : ℝ) : EReal) = _
  rw [show (i 0).val / 2048 * 2048 + (i 0).val % 2048 = (i 0).val by omega]
/-- The offset as a one-element array. -/
theorem host0_o (h : ∀ i, (V (Proc.devRef .tc main_arg8) : IVec S_ 32) i = 0#32) (i) :
    (StableHlo.after hostOps0 V (Proc.devRef .tc main_v2) : IVec S1 32) i = 0#32 := by
  have e : (StableHlo.after hostOps0 V (Proc.devRef .tc main_v2) : IVec S1 32)
      = shapeCast S1 (V (Proc.devRef .tc main_arg8) : IVec S_ 32) shapeCasts_S_S1 := by
    after_results
    rfl
  rw [e]
  exact h _
/-- The norm weights as a row. -/
theorem host0_n {nw : ℕ → ℝ} (h : Is1 (n := 512) (V (Proc.devRef .tc main_arg7)) nw) :
    Is2 (n := 1) (m := 512) (StableHlo.after hostOps0 V (Proc.devRef .tc main_v3)) (fun _ b => nw b) := by
  have e : (StableHlo.after hostOps0 V (Proc.devRef .tc main_v3) : FVec Ideal S1x512 .f32)
      = shapeCast S1x512 (V (Proc.devRef .tc main_arg7) : FVec Ideal S512 .f32) shapeCasts_S512_S1x512 := by
    after_results
    rfl
  rw [e]
  exact Is1.row (φ := .f32) h _
/-- The result's reshape. -/
theorem host6_out {f : ℕ → ℕ → EReal} (h : E2 (n := 4096) (m := 2048) (V (Proc.devRef .tc main_v34)) f) :
    E3 (n := 2) (m := 2048) (k := 2048) (StableHlo.after hostOps6 V (Proc.devRef .tc main_v35)) (fun b s d => f (b * 2048 + s) d) := fun i => by
  have h0 : (i 0).val < 2 := (i 0).isLt
  have h1 : (i 1).val < 2048 := (i 1).isLt
  have h2 : (i 2).val < 2048 := (i 2).isLt
  have e : (StableHlo.after hostOps6 V (Proc.devRef .tc main_v35) : FVec Ideal S2x2048x2048 .f32)
      = shapeCast S2x2048x2048 (V (Proc.devRef .tc main_v34) : FVec Ideal S4096x2048 .f32) shapeCasts_S4096x2048_S2x2048x2048 := by
    after_results
    rfl
  rw [e, shapeCast_apply _ shapeCasts_S4096x2048_S2x2048x2048 i (ix2 ⟨(i 0).val * 2048 + (i 1).val, by omega⟩ ⟨(i 2).val, h2⟩) (by
      rw [Shape.rowMajor_val_three, Shape.rowMajor_val_two]
      rfl)]
  exact h _

end Cert.Val

end
-- ==== Proof.Value.Score.lean ====
/-
  The attention score, as a real function of the flattened rows.
-/
module

public import proofs.«01_k».proof.Proof.Value.Spec

@[expose] public section

set_option maxRecDepth 16384

noncomputable section

namespace Cert.Val

open scoped BigOperators
open Finset (range)

/-- The score of query row `n` against key row `t` for head `h`. -/
def score (cn wuk qc qr kr : ℕ → ℕ → ℝ) (h n t : ℕ) : ℝ :=
  ((∑ l ∈ range 512, (∑ k ∈ range 128, wuk (h * 128 + k) l * qc n (h * 128 + k)) * cn t l) + ∑ r ∈ range 64, qr n (h * 64 + r) * kr t (h * 64 + r)) * (Real.sqrt 192)⁻¹
/-- The causal exponential of a score less a shift. -/
def ecaus (S M : ℝ) (t s : ℕ) : ℝ := if t ≤ s then Real.exp (S - M) else 0
theorem ecaus_nonneg (S M : ℝ) (t s : ℕ) : 0 ≤ ecaus S M t s := by
  unfold ecaus
  split
  · exact (Real.exp_pos _).le
  · exact le_rfl
theorem ecaus_sum_pos (S : ℕ → ℝ) (M : ℝ) (s : ℕ) : 0 < ∑ t ∈ range 2048, ecaus (S t) M t s :=
  Finset.sum_pos' (fun t _ => ecaus_nonneg (S t) M t s) ⟨0, Finset.mem_range.2 (by norm_num), by
    unfold ecaus
    rw [if_pos (Nat.zero_le s)]
    exact Real.exp_pos _⟩

end Cert.Val

end
-- ==== Proof.Value.Pay.lean ====
/-
  The kernels' arithmetic, one program block at a time: what each body computes from blocks that hold reals.
-/
module

public import proofs.«01_k».proof.Proof.Value.Lat
public import proofs.«01_k».proof.Proof.Gen.KernelIdeal.Skeleton

@[expose] public section

set_option maxRecDepth 16384

noncomputable section

namespace Cert.Val

open Idealize.ShloMosaic Idealize.ShloMosaic.ValueIdx
open Cert.KernelIdeal Cert.KernelIdeal.Gen
open scoped BigOperators

/-- The named score scale. -/
theorem named_scale : Named.named (F := Ideal) (φ := .f32) κ "score_scale" 0x3DD53B95#32 = ((kap : ℝ) : EReal) :=
  IdealRules.named_const.ideal_named_scalar _ _ _ _ rfl
/-- The named mask value. -/
theorem named_mask : Named.named (F := Ideal) (φ := .f32) κ "mask" 0xF149F2CA#32 = (⊥ : EReal) :=
  IdealRules.named_const.ideal_named_scalar _ _ _ _ rfl

/-- The content-query kernel: rows of `x` against rows of the weight. -/
theorem k1_pay1_is {v0 : Vec Ideal S1024x2048 .f32} {v2 : Vec Ideal S1024x2048 .bf16} {w x : ℕ → ℕ → ℝ}
    (h0 : Is2 v0 w) (h2 : Is2 v2 x) : Is2 (k1_pay1 v0 v2) (fun i j => ∑ k ∈ Finset.range 2048, x i k * w j k) := by
  unfold k1_pay1
  simp only [shapeCast_self]
  refine Is2.truncf (φ := .f32) .bf16 _ ?_
  exact is2_matmul dot_S1024x2048_S1024x2048_S1024x1024_1_1_0_0_n_n 2048 rfl rfl h2 (Is2.truncf (φ := .f32) .bf16 _ h0) x w (fun _ _ => rfl) (fun _ _ => rfl)

/-- The output projection: columns of the context against rows of the weight. -/
theorem k5_pay1_is {v0 : Vec Ideal S2048x2048 .f32} {v2 : Vec Ideal S2048x512 .bf16} {x : ℕ → ℕ → ℝ} {w : ℕ → ℕ → EReal}
    (h0 : E2 v0 w) (h2 : Is2 v2 x) : E2 (k5_pay1 v0 v2) (linE 2048 (fun i k => x k i) w) := by
  unfold k5_pay1
  simp only [shapeCast_self]
  exact e2_matmul (φ₂ := .bf16) (B := truncf (F := Ideal) (φ := .f32) .bf16 v0 bitsLt_bf16_f32) dot_S2048x512_S2048x2048_S512x2048_0_1_1_0_n_n 2048 rfl rfl h2 h0 (fun i k => x k i) w (fun _ _ => rfl) (fun _ _ => rfl)

/-- The normalised latent, in the key-value kernel. -/
theorem k0_pay1_is {v0 : Vec Ideal S512x2048 .bf16} {v2 : Vec Ideal S512x2048 .f32} {v15 : Vec Ideal S1x512 .f32}
    {x : ℕ → ℕ → ℝ} {wd : ℕ → ℕ → EReal} {nw : ℕ → ℝ} (h0 : Is2 v0 x) (h2 : E2 v2 wd) (h15 : Is2 v15 (fun _ b => nw b)) :
    Is2 (k0_pay1 v0 v2 v15) (cnorm (linE 2048 x wd) nw) := by
  unfold k0_pay1
  simp only [shapeCast_self]
  refine Is2.truncf (φ := .f32) .bf16 _ ?_
  have hc : E2 (matmul (F := Ideal) (φ₁ := .bf16) (φ₂ := .bf16) dot_S512x2048_S512x2048_S512x512_1_1_0_0_n_n none v0 (truncf .bf16 v2 bitsLt_bf16_f32) (constant S512x512 .f32 0x00000000#32)) (linE 2048 x wd) :=
    e2_matmul dot_S512x2048_S512x2048_S512x512_1_1_0_0_n_n 2048 rfl rfl h0 h2 x wd (fun _ _ => rfl) (fun _ _ => rfl)
  intro i
  refine Eq.trans (congrArg₂ (· * ·) (congrArg₂ (· * ·) (hc i) (Is2.bcastCol (φ := .f32) (f := fun a _ => rms (linE 2048 x wd) a) (fun i => ?_) _ i))
    (Is2.bcastRow (φ := .f32) (f := fun _ b => nw b) h15 _ i)) (cnorm_coe _ _ _ (idx2_lt1 i))
  refine Eq.trans (congrArg Ideal.rsqrt (congrArg₂ (· + ·) (congrArg₂ Ideal.div (E1.col (φ := .f32) (E2.sumRows (g := fun a l => linE 2048 x wd a l * linE 2048 x wd a l)
    (fun i => congrArg₂ (· * ·) (hc i) (hc i)) _ _ _ (fun _ _ => ⟨rfl, rfl⟩)) _ i) lit_512) lit_eps)) (rms_coe (linE 2048 x wd) (i 0).val)

/-- The scaled keys. -/
theorem k0_pay2_is {v0 : Vec Ideal S512x2048 .bf16} {v2 : Vec Ideal S512x2048 .f32} {v15 : Vec Ideal S1x512 .f32} {v20 : Vec Ideal S2048x512 .f32}
    {x wu : ℕ → ℕ → ℝ} {wd : ℕ → ℕ → EReal} {nw : ℕ → ℝ} (h0 : Is2 v0 x) (h2 : E2 v2 wd) (h15 : Is2 v15 (fun _ b => nw b)) (h20 : Is2 v20 wu) :
    Is2 (k0_pay2 v0 v2 v15 v20) (fun n j => lin 512 (cnorm (linE 2048 x wd) nw) wu n j * kap) := by
  unfold k0_pay2
  refine Is2.truncf (φ := .f32) .bf16 _ (Is2.mulf ?_ (is2_broadcast named_scale))
  exact is2_matmul dot_S512x512_S2048x512_S512x2048_1_1_0_0_n_n 512 rfl rfl (k0_pay1_is h0 h2 h15) (Is2.truncf (φ := .f32) .bf16 _ h20) _ wu (fun _ _ => rfl) (fun _ _ => rfl)

/-- The values. -/
theorem k0_pay3_is {v0 : Vec Ideal S512x2048 .bf16} {v2 : Vec Ideal S512x2048 .f32} {v15 : Vec Ideal S1x512 .f32} {v20 : Vec Ideal S2048x512 .f32}
    {x wu : ℕ → ℕ → ℝ} {wd : ℕ → ℕ → EReal} {nw : ℕ → ℝ} (h0 : Is2 v0 x) (h2 : E2 v2 wd) (h15 : Is2 v15 (fun _ b => nw b)) (h20 : Is2 v20 wu) :
    Is2 (k0_pay3 v0 v2 v15 v20) (lin 512 (cnorm (linE 2048 x wd) nw) wu) := by
  unfold k0_pay3
  refine Is2.truncf (φ := .f32) .bf16 _ ?_
  exact is2_matmul dot_S512x512_S2048x512_S512x2048_1_1_0_0_n_n 512 rfl rfl (k0_pay1_is h0 h2 h15) (Is2.truncf (φ := .f32) .bf16 _ h20) _ wu (fun _ _ => rfl) (fun _ _ => rfl)

/-- The column's place within its block of 64, as the kernels compute it on words. -/
def ropeBit (x : BitVec 32) : BitVec 1 :=
  let d : BitVec 32 := Scalar.select (Scalar.cmpi .eq 64#32 0#32) 1#32 64#32
  let r := IntOp.remsi .vector x d
  IntOp.cmpi .slt (Scalar.select (IntOp.andi (IntOp.xori (IntOp.cmpi .slt r 0#32) (Scalar.cmpi .slt d 0#32)) (IntOp.cmpi .ne r 0#32)) (IntOp.addi r d) r) 32#32
theorem ropeBit_eq : ∀ j : Fin 1024, ropeBit (BitVec.ofNat 32 (0 * 1024 + j.val)) = BitVec.ofBool (decide (j.val % 64 < 32)) := by decide +kernel

/-- The half-rotation, from the two shifted copies. -/
theorem rot_is {A : FVec Ideal S1024x1024 .f32} {a : ℕ → ℕ → ℝ} (hA : Is2 A a) {c : IVec S1024x1024 1}
    (hc : ∀ i, c i = ropeBit (BitVec.ofNat 32 (0 * 1024 + (i 1).val))) :
    Is2 (select c (subf (broadcast S1024x1024 (Scalar.ofBits (F := Ideal) .f32 0x00000000#32))
        (concatenate S1024x1024 1 [⟨S1024x992, extractStridedSlice S1024x992 ![0, 32] A slices_S1024x1024_o0_32_S1024x992⟩, ⟨S1024x32, extractStridedSlice S1024x32 ![0, 0] A slices_S1024x1024_o0_0_S1024x32⟩] concatenates_S1024x992_S1024x32_S1024x1024_d1))
        (concatenate S1024x1024 1 [⟨S1024x32, extractStridedSlice S1024x32 ![0, 992] A slices_S1024x1024_o0_992_S1024x32⟩, ⟨S1024x992, extractStridedSlice S1024x992 ![0, 0] A slices_S1024x1024_o0_0_S1024x992⟩] concatenates_S1024x32_S1024x992_S1024x1024_d1))
      (rot a) := by
  refine Is2.congr (Is2.sel (Is2.subf (is2_broadcast lit_zero) (Is2.concat (φ := .f32) (Is2.slice hA 32 _) (Is2.slice hA 0 _) _))
    (Is2.concat (φ := .f32) (Is2.slice hA 992 _) (Is2.slice hA 0 _) _) (fun _ b => b % 64 < 32) (fun i => ?_)) ?_
  · rw [hc i]; exact ropeBit_eq ⟨(i 1).val, idx2_lt1 i⟩
  · intro n j _ hj
    unfold rot
    by_cases h : j % 64 < 32
    · rw [if_pos h, if_pos h, if_pos (by omega), zero_sub, Nat.add_comm]
    · rw [if_neg h, if_neg h, if_neg (by omega), Nat.zero_add]

/-- The scaled rope keys before rotation. -/
theorem k2_pay2_is {v0 : Vec Ideal S1024x2048 .bf16} {v2 : Vec Ideal S1024x2048 .f32} {x w : ℕ → ℕ → ℝ} (h0 : Is2 v0 x) (h2 : Is2 v2 w) :
    Is2 (k2_pay2 v0 v2) (fun n j => lin 2048 x w n j * kap) := by
  unfold k2_pay2
  simp only [shapeCast_self]
  refine Is2.mulf ?_ (is2_broadcast named_scale)
  exact is2_matmul dot_S1024x2048_S1024x2048_S1024x1024_1_1_0_0_n_n 2048 rfl rfl h0 (Is2.truncf (φ := .f32) .bf16 _ h2) x w (fun _ _ => rfl) (fun _ _ => rfl)

/-- The rope-key kernel. -/
theorem k2_is {v0 : Vec Ideal S1024x2048 .bf16} {v2 : Vec Ideal S1024x2048 .f32} {v7 v10 : Vec Ideal S1024x1024 .bf16} {x w co si : ℕ → ℕ → ℝ}
    (h0 : Is2 v0 x) (h2 : Is2 v2 w) (h7 : Is2 v7 co) (h10 : Is2 v10 si) :
    Is2 (k2_pay1 (k2_pay2 v0 v2) (k2_pay3 v7) (k2_pay4 v10) (k2_pay5 v0 v2)) (rope (fun n j => lin 2048 x w n j * kap) co si) := by
  unfold k2_pay1 k2_pay3 k2_pay4 k2_pay5
  simp only [shapeCast_self]
  refine Is2.truncf (φ := .f32) .bf16 _ (Is2.addf (Is2.mulf (k2_pay2_is h0 h2) (Is2.extf (φ := .bf16) .f32 _ h7)) (Is2.mulf ?_ (Is2.extf (φ := .bf16) .f32 _ h10)))
  exact rot_is (k2_pay2_is h0 h2) (fun _ => rfl)

/-- The rope-query kernel. -/
theorem k3_is {v0 : Vec Ideal S1024x2048 .bf16} {v2 : Vec Ideal S1024x2048 .f32} {v5 v8 : Vec Ideal S1024x1024 .bf16} {x w co si : ℕ → ℕ → ℝ}
    (h0 : Is2 v0 x) (h2 : Is2 v2 w) (h5 : Is2 v5 co) (h8 : Is2 v8 si) :
    Is2 (k3_pay1 (k3_pay2 v0 v2 v5 v8)) (rope (lin 2048 x w) co si) := by
  unfold k3_pay1 k3_pay2
  dsimp only
  rw [shapeCast_self v0, shapeCast_self v5, shapeCast_self v8]
  have hc : Is2 (matmul (F := Ideal) (φ₁ := .bf16) (φ₂ := .bf16) dot_S1024x2048_S1024x2048_S1024x1024_1_1_0_0_n_n none v0 (truncf .bf16 v2 bitsLt_bf16_f32) (constant S1024x1024 .f32 0x00000000#32)) (lin 2048 x w) :=
    is2_matmul dot_S1024x2048_S1024x2048_S1024x1024_1_1_0_0_n_n 2048 rfl rfl h0 (Is2.truncf (φ := .f32) .bf16 _ h2) x w (fun _ _ => rfl) (fun _ _ => rfl)
  revert hc
  generalize matmul (F := Ideal) (φ₁ := .bf16) (φ₂ := .bf16) dot_S1024x2048_S1024x2048_S1024x1024_1_1_0_0_n_n none v0 (truncf .bf16 v2 bitsLt_bf16_f32) (constant S1024x1024 .f32 0x00000000#32) = C
  generalize lin 2048 x w = f
  intro hc
  refine Is2.truncf (φ := .f32) .bf16 _ (Is2.addf (Is2.mulf hc (Is2.extf (φ := .bf16) .f32 _ h5)) (Is2.mulf (f := rot f) ?_ (Is2.extf (φ := .bf16) .f32 _ h8)))
  refine rot_is hc ?_
  intro i
  rfl

end Cert.Val

end
-- ==== Proof.Value.PayAttn.lean ====
/-
  The attention kernel's arithmetic: exponents of the scores of one key chunk against one query tile, their column sums, the weighted
  values, and the four query tiles put together.
-/
module

public import proofs.«01_k».proof.Proof.Value.Pay

@[expose] public section

set_option maxRecDepth 16384

noncomputable section

namespace Cert.Val

open Idealize.ShloMosaic Idealize.ShloMosaic.ValueIdx
open Cert.KernelIdeal Cert.KernelIdeal.Gen
open scoped BigOperators
open Finset (range)

/-- The scores of one key chunk. -/
theorem score_is {A Q : FVec Ideal S512x192 .bf16} {kf qf : ℕ → ℕ → ℝ} (hK : Is2 A kf) (hQ : Is2 Q qf) :
    Is2 (matmul (F := Ideal) (φ₁ := .bf16) (φ₂ := .bf16) dot_S512x192_S512x192_S512x512_1_1_0_0_n_n none A Q (constant S512x512 .f32 0x00000000#32)) (lin 192 kf qf) :=
  is2_matmul dot_S512x192_S512x192_S512x512_1_1_0_0_n_n 192 rfl rfl hK hQ kf qf (fun _ _ => rfl) (fun _ _ => rfl)

/-- The weights of a key chunk wholly before the queries. -/
theorem pexp_is {A : FVec Ideal S512x512 .f32} {f : ℕ → ℕ → ℝ} (hA : Is2 A f) :
    Is2 (exp2 (subf A (broadcast S512x512 (Scalar.ofBits (F := Ideal) .f32 0x41B8AA3B#32)))) (fun t b => (2 : ℝ) ^ (f t b - shift)) :=
  Is2.exp2 (Is2.subf hA (is2_broadcast lit_shift))

/-- The weights of the key chunk on the diagonal. -/
theorem mexp_is {A : FVec Ideal S512x512 .f32} {f : ℕ → ℕ → ℝ} (hA : Is2 A f) {c : IVec S512x512 1}
    (hc : ∀ i, c i = BitVec.ofBool (decide ((i 1).val < (i 0).val))) :
    Is2 (exp2 (subf (select c (broadcast S512x512 (Named.named (F := Ideal) (φ := .f32) κ "mask" 0xF149F2CA#32)) A) (broadcast S512x512 (Scalar.ofBits (F := Ideal) .f32 0x41B8AA3B#32))))
      (fun t b => if t ≤ b then (2 : ℝ) ^ (f t b - shift) else 0) := fun i => by
  show Ideal.exp2 (Scalar.select (c i) (Named.named (F := Ideal) (φ := .f32) κ "mask" 0xF149F2CA#32) (A i) - Ideal.ofBits .f32 0x41B8AA3B#32)
    = (((if (i 0).val ≤ (i 1).val then (2 : ℝ) ^ (f (i 0).val (i 1).val - shift) else 0) : ℝ) : EReal)
  rw [hc i, WordCmp.select_decide, hA i, lit_shift, named_mask]
  by_cases h : (i 1).val < (i 0).val
  · rw [if_pos h, if_neg (by omega), EReal.bot_sub, Ideal.exp2_bot]; rfl
  · rw [if_neg h, if_pos (by omega), ← EReal.coe_sub, Ideal.exp2_coe]; rfl

/-- The diagonal test on words. -/
theorem diag_word {c t b : ℕ} (hc : c ≤ 1536) (ht : t < 512) (hb : b < 512) :
    IntOp.cmpi .sgt (IntOp.addi (BitVec.ofNat 32 c) (BitVec.ofNat 32 (0 * 512 + t))) (IntOp.addi (Scalar.addi (BitVec.ofNat 32 c) 0#32) (BitVec.ofNat 32 (0 * 512 + b)))
      = BitVec.ofBool (decide (b < t)) := by
  have e1 : IntOp.addi (BitVec.ofNat 32 c) (BitVec.ofNat 32 (0 * 512 + t)) = BitVec.ofNat 32 (c + t) := by
    show BitVec.ofNat 32 c + BitVec.ofNat 32 (0 * 512 + t) = _
    rw [← BitVec.ofNat_add, Nat.zero_mul, Nat.zero_add]
  have e2 : IntOp.addi (Scalar.addi (BitVec.ofNat 32 c) 0#32) (BitVec.ofNat 32 (0 * 512 + b)) = BitVec.ofNat 32 (c + b) := by
    show BitVec.ofNat 32 c + BitVec.ofNat 32 0 + BitVec.ofNat 32 (0 * 512 + b) = _
    rw [← BitVec.ofNat_add, ← BitVec.ofNat_add, Nat.zero_mul, Nat.zero_add, Nat.add_zero]
  rw [e1, e2, WordCmp.cmpi_sgt_ofNat (by omega) (by omega)]
  congr 1
  exact decide_eq_decide.mpr (by omega)

/-- Column sums of the weights, as a row. -/
theorem csum_is {E : FVec Ideal S512x512 .f32} {e : ℕ → ℕ → ℝ} (hE : Is2 E e) (hφ : FKind.Formats .f32) (hacc : 0x00000000#32 = FKind.add.neutral .f32 hφ) :
    Is2 (shapeCast S1x512 (multiReduction .add [0] S512 E 0x00000000#32 reduces_S512x512_S512_2 hφ hacc) shapeCasts_S512_S1x512)
      (fun _ b => ∑ t ∈ range 512, e t b) :=
  Is1.row (φ := .f32) (Is2.sumCols hE _ _ _ (fun _ _ => ⟨rfl, rfl⟩)) _

/-- The weighted values of one chunk. -/
theorem pv_is {V : FVec Ideal S512x128 .bf16} {E : FVec Ideal S512x512 .f32} {v e : ℕ → ℕ → ℝ} (hV : Is2 V v) (hE : Is2 E e) :
    Is2 (matmul (F := Ideal) (φ₁ := .bf16) (φ₂ := .bf16) dot_S512x128_S512x512_S128x512_0_0_1_1_n_n none V (truncf .bf16 E bitsLt_bf16_f32) (constant S128x512 .f32 0x00000000#32))
      (fun d b => ∑ t ∈ range 512, v t d * e t b) :=
  is2_matmul dot_S512x128_S512x512_S128x512_0_0_1_1_n_n 512 rfl rfl hV (Is2.truncf (φ := .f32) .bf16 _ hE) (fun d t => v t d) (fun b t => e t b) (fun _ _ => rfl) (fun _ _ => rfl)

/-- The division by the column sums. -/
theorem fin_is {A : FVec Ideal S128x512 .f32} {L : FVec Ideal S1x512 .f32} {a : ℕ → ℕ → ℝ} {l : ℕ → ℝ} (hA : Is2 A a) (hL : Is2 L (fun _ b => l b))
    (hl : ∀ b, b < 512 → l b ≠ 0) :
    Is2 (truncf .bf16 (mulf A (broadcastTo S128x512 (divf (broadcast S1x512 (Scalar.ofBits (F := Ideal) .f32 0x3F800000#32)) L) broadcasts_S1x512_S128x512)) bitsLt_bf16_f32)
      (fun d b => a d b / l b) := by
  refine Is2.truncf (φ := .f32) .bf16 _ (Is2.congr (Is2.mulf hA (Is2.bcastRow (φ := .f32) (Is2.divf (is2_broadcast lit_one) hL (fun _ b _ hb => hl b hb)) _)) ?_)
  intro d b _ _
  exact mul_one_div _ _

/-- The weight of key `t` for query `b` of tile `c`. -/
def wt (c : ℕ) (kf qf : ℕ → ℕ → ℝ) (t b : ℕ) : ℝ := if t ≤ c * 512 + b then (2 : ℝ) ^ (lin 192 kf qf t b - shift) else 0
theorem wt_nonneg (c : ℕ) (kf qf : ℕ → ℕ → ℝ) (t b : ℕ) : 0 ≤ wt c kf qf t b := by
  unfold wt; split
  · exact (Real.rpow_pos_of_pos (by norm_num) _).le
  · exact le_rfl
theorem wt_sum_pos (c : ℕ) (kf qf : ℕ → ℕ → ℝ) (b : ℕ) : 0 < ∑ t ∈ range 2048, wt c kf qf t b := by
  refine Finset.sum_pos' (fun t _ => wt_nonneg c kf qf t b) ⟨0, Finset.mem_range.2 (by norm_num), ?_⟩
  unfold wt
  rw [if_pos (Nat.zero_le _)]
  exact Real.rpow_pos_of_pos (by norm_num) _
/-- The tile's result. -/
def tile (c : ℕ) (kf qf vf : ℕ → ℕ → ℝ) (d b : ℕ) : ℝ :=
  (∑ t ∈ range 2048, vf t d * wt c kf qf t b) / ∑ t ∈ range 2048, wt c kf qf t b

/-- A sum over 2048 keys by chunks of 512. -/
theorem sum_chunks (f : ℕ → ℝ) : ∑ t ∈ range 2048, f t
    = ∑ t ∈ range 512, f t + ∑ t ∈ range 512, f (512 + t) + ∑ t ∈ range 512, f (1024 + t) + ∑ t ∈ range 512, f (1536 + t) := by
  rw [show (2048 : ℕ) = 1536 + 512 from rfl, Finset.sum_range_add, show (1536 : ℕ) = 1024 + 512 from rfl, Finset.sum_range_add,
    show (1024 : ℕ) = 512 + 512 from rfl, Finset.sum_range_add]

/-- The weights of a chunk before the tile. -/
theorem wt_before {c o : ℕ} (h : o + 512 ≤ c * 512) (kf qf : ℕ → ℕ → ℝ) {t b : ℕ} (ht : t < 512) :
    wt c kf qf (o + t) b = (2 : ℝ) ^ (lin 192 (fun t k => kf (o + t) k) qf t b - shift) := if_pos (by omega)
/-- The weights of the tile's own chunk. -/
theorem wt_diag (c : ℕ) (kf qf : ℕ → ℕ → ℝ) (t b : ℕ) :
    wt c kf qf (c * 512 + t) b = if t ≤ b then (2 : ℝ) ^ (lin 192 (fun t k => kf (c * 512 + t) k) qf t b - shift) else 0 := by
  unfold wt
  by_cases h : t ≤ b
  · rw [if_pos h, if_pos (by omega)]; rfl
  · rw [if_neg h, if_neg (by omega)]
/-- The weights of a chunk after the tile. -/
theorem wt_after {c o : ℕ} (h : c * 512 + 512 ≤ o) (kf qf : ℕ → ℕ → ℝ) {t b : ℕ} (hb : b < 512) : wt c kf qf (o + t) b = 0 := if_neg (by omega)

/-- The sum over one chunk's weights equals the sum of the chunk's own exponents. -/
theorem sum_before {c o : ℕ} (h : o + 512 ≤ c * 512) (kf qf : ℕ → ℕ → ℝ) (g : ℕ → ℝ) (b : ℕ) :
    ∑ t ∈ range 512, g t * wt c kf qf (o + t) b = ∑ t ∈ range 512, g t * (2 : ℝ) ^ (lin 192 (fun t k => kf (o + t) k) qf t b - shift) :=
  Finset.sum_congr rfl fun t ht => by rw [wt_before h kf qf (Finset.mem_range.1 ht)]
theorem sum_after {c o : ℕ} (h : c * 512 + 512 ≤ o) (kf qf : ℕ → ℕ → ℝ) (g : ℕ → ℝ) {b : ℕ} (hb : b < 512) :
    ∑ t ∈ range 512, g t * wt c kf qf (o + t) b = 0 :=
  Finset.sum_eq_zero fun t _ => by rw [wt_after h kf qf hb, mul_zero]

/-- The chunk `o` of rows. -/
abbrev rows (o : ℕ) (f : ℕ → ℕ → ℝ) : ℕ → ℕ → ℝ := fun t k => f (o + t) k
/-- The weights as the chunk computes them, before the diagonal. -/
abbrev wb (o : ℕ) (kf qf : ℕ → ℕ → ℝ) (t b : ℕ) : ℝ := (2 : ℝ) ^ (lin 192 (rows o kf) qf t b - shift)
/-- The weights as the chunk computes them, on the diagonal. -/
abbrev wd (o : ℕ) (kf qf : ℕ → ℕ → ℝ) (t b : ℕ) : ℝ := if t ≤ b then (2 : ℝ) ^ (lin 192 (rows o kf) qf t b - shift) else 0

theorem sumv_before {c o : ℕ} (h : o + 512 ≤ c * 512) (kf qf : ℕ → ℕ → ℝ) (g : ℕ → ℝ) (b : ℕ) :
    ∑ t ∈ range 512, g (o + t) * wt c kf qf (o + t) b = ∑ t ∈ range 512, g (o + t) * wb o kf qf t b :=
  Finset.sum_congr rfl fun t ht => by rw [wt_before h kf qf (Finset.mem_range.1 ht)]
theorem sumv_diag {c o : ℕ} (h : o = c * 512) (kf qf : ℕ → ℕ → ℝ) (g : ℕ → ℝ) (b : ℕ) :
    ∑ t ∈ range 512, g (o + t) * wt c kf qf (o + t) b = ∑ t ∈ range 512, g (o + t) * wd o kf qf t b := by
  subst h; exact Finset.sum_congr rfl fun t _ => by rw [wt_diag c kf qf t b]
theorem sumv_after {c o : ℕ} (h : c * 512 + 512 ≤ o) (kf qf : ℕ → ℕ → ℝ) (g : ℕ → ℝ) {b : ℕ} (hb : b < 512) :
    ∑ t ∈ range 512, g (o + t) * wt c kf qf (o + t) b = 0 :=
  Finset.sum_eq_zero fun t _ => by rw [wt_after h kf qf hb, mul_zero]

/-- Weighted sums of tile 0. -/
theorem sum_tile0 (kf qf : ℕ → ℕ → ℝ) (g : ℕ → ℝ) {b : ℕ} (hb : b < 512) :
    ∑ t ∈ range 2048, g t * wt 0 kf qf t b = ∑ t ∈ range 512, g (0 + t) * wd 0 kf qf t b := by
  have e : ∑ t ∈ range 512, g t * wt 0 kf qf t b = ∑ t ∈ range 512, g (0 + t) * wt 0 kf qf (0 + t) b := by simp only [Nat.zero_add]
  rw [sum_chunks,
    e,
    sumv_diag (c := 0) (o := 0) (by norm_num) kf qf g b,
    sumv_after (c := 0) (o := 512) (by norm_num) kf qf g hb,
    sumv_after (c := 0) (o := 1024) (by norm_num) kf qf g hb,
    sumv_after (c := 0) (o := 1536) (by norm_num) kf qf g hb,
    add_zero,
    add_zero,
    add_zero]
/-- Weighted sums of tile 1. -/
theorem sum_tile1 (kf qf : ℕ → ℕ → ℝ) (g : ℕ → ℝ) {b : ℕ} (hb : b < 512) :
    ∑ t ∈ range 2048, g t * wt 1 kf qf t b = ∑ t ∈ range 512, g (0 + t) * wb 0 kf qf t b + ∑ t ∈ range 512, g (512 + t) * wd 512 kf qf t b := by
  have e : ∑ t ∈ range 512, g t * wt 1 kf qf t b = ∑ t ∈ range 512, g (0 + t) * wt 1 kf qf (0 + t) b := by simp only [Nat.zero_add]
  rw [sum_chunks,
    e,
    sumv_before (c := 1) (o := 0) (by norm_num) kf qf g b,
    sumv_diag (c := 1) (o := 512) (by norm_num) kf qf g b,
    sumv_after (c := 1) (o := 1024) (by norm_num) kf qf g hb,
    sumv_after (c := 1) (o := 1536) (by norm_num) kf qf g hb,
    add_zero,
    add_zero]
/-- Weighted sums of tile 2. -/
theorem sum_tile2 (kf qf : ℕ → ℕ → ℝ) (g : ℕ → ℝ) {b : ℕ} (hb : b < 512) :
    ∑ t ∈ range 2048, g t * wt 2 kf qf t b = ∑ t ∈ range 512, g (0 + t) * wb 0 kf qf t b + ∑ t ∈ range 512, g (512 + t) * wb 512 kf qf t b + ∑ t ∈ range 512, g (1024 + t) * wd 1024 kf qf t b := by
  have e : ∑ t ∈ range 512, g t * wt 2 kf qf t b = ∑ t ∈ range 512, g (0 + t) * wt 2 kf qf (0 + t) b := by simp only [Nat.zero_add]
  rw [sum_chunks,
    e,
    sumv_before (c := 2) (o := 0) (by norm_num) kf qf g b,
    sumv_before (c := 2) (o := 512) (by norm_num) kf qf g b,
    sumv_diag (c := 2) (o := 1024) (by norm_num) kf qf g b,
    sumv_after (c := 2) (o := 1536) (by norm_num) kf qf g hb,
    add_zero]
/-- Weighted sums of tile 3. -/
theorem sum_tile3 (kf qf : ℕ → ℕ → ℝ) (g : ℕ → ℝ) {b : ℕ} (hb : b < 512) :
    ∑ t ∈ range 2048, g t * wt 3 kf qf t b = ∑ t ∈ range 512, g (0 + t) * wb 0 kf qf t b + ∑ t ∈ range 512, g (512 + t) * wb 512 kf qf t b + ∑ t ∈ range 512, g (1024 + t) * wb 1024 kf qf t b + ∑ t ∈ range 512, g (1536 + t) * wd 1536 kf qf t b := by
  have e : ∑ t ∈ range 512, g t * wt 3 kf qf t b = ∑ t ∈ range 512, g (0 + t) * wt 3 kf qf (0 + t) b := by simp only [Nat.zero_add]
  rw [sum_chunks,
    e,
    sumv_before (c := 3) (o := 0) (by norm_num) kf qf g b,
    sumv_before (c := 3) (o := 512) (by norm_num) kf qf g b,
    sumv_before (c := 3) (o := 1024) (by norm_num) kf qf g b,
    sumv_diag (c := 3) (o := 1536) (by norm_num) kf qf g b]

/-- A tile's result from its two sums. -/
theorem tile_of {c : ℕ} {kf qf vf : ℕ → ℕ → ℝ} {A : FVec Ideal S128x512 .f32} {L : FVec Ideal S1x512 .f32} {a : ℕ → ℕ → ℝ} {l : ℕ → ℕ → ℝ}
    (hA : Is2 A a) (hL : Is2 L l) (ea : ∀ d b, b < 512 → ∑ t ∈ range 2048, vf t d * wt c kf qf t b = a d b)
    (el : ∀ b, b < 512 → ∑ t ∈ range 2048, (1 : ℝ) * wt c kf qf t b = l 0 b) :
    Is2 (truncf .bf16 (mulf A (broadcastTo S128x512 (divf (broadcast S1x512 (Scalar.ofBits (F := Ideal) .f32 0x3F800000#32)) L) broadcasts_S1x512_S128x512)) bitsLt_bf16_f32)
      (tile c kf qf vf) := by
  have hL' : Is2 L (fun _ b => l 0 b) := Is2.congr hL fun x y hx _ => by rw [Nat.lt_one_iff.1 hx]
  have el' : ∀ b, b < 512 → l 0 b = ∑ t ∈ range 2048, wt c kf qf t b := fun b hb => by
    rw [← el b hb]; exact Finset.sum_congr rfl fun t _ => one_mul _
  refine Is2.congr (fin_is hA hL' (fun b hb => by rw [el' b hb]; exact (wt_sum_pos c kf qf b).ne')) ?_
  intro d b _ hb
  unfold tile
  rw [ea d b hb, el' b hb]

variable {Q : FVec Ideal S512x192 .bf16} {C0 C1 C2 C3 : FVec Ideal S512x192 .bf16} {V0 V1 V2 V3 : FVec Ideal S512x128 .bf16} {kf qf vf : ℕ → ℕ → ℝ}

/-- Tile 0. -/
theorem tile0_is (hQ : Is2 Q qf) (h0 : Is2 C0 (rows 0 kf)) (g0 : Is2 V0 (rows 0 vf)) : Is2 (k4_pay27 (F := Ideal) 0#32 Q C0 V0) (tile 0 kf qf vf) := by
  unfold k4_pay27
  simp only [shapeCast_self]
  have hE := mexp_is (c := cmpi .sgt (addi (broadcast S512x512 0#32) (iota .tc S512x512 32 [0] iota_S512x512_d0_w32)) (addi (broadcast S512x512 (Scalar.addi 0#32 0#32)) (iota .tc S512x512 32 [1] iota_S512x512_d1_w32)))
    (score_is h0 hQ) (fun i => diag_word (c := 0) (by norm_num) (idx2_lt0 i) (idx2_lt1 i))
  refine tile_of (pv_is g0 hE) (csum_is hE _ _) (fun d b hb => sum_tile0 kf qf (fun t => vf t d) hb) (fun b hb => ?_)
  rw [sum_tile0 kf qf (fun _ => 1) hb]
  simp only [one_mul]

/-- Tile 1. -/
theorem tile1_is (hQ : Is2 Q qf) (h0 : Is2 C0 (rows 0 kf)) (h1 : Is2 C1 (rows 512 kf)) (g0 : Is2 V0 (rows 0 vf)) (g1 : Is2 V1 (rows 512 vf)) :
    Is2 (k4_pay1 (F := Ideal) (k4_pay6 0#32 Q C0 V0 C1 V1) (k4_pay7 0#32 Q C0 C1)) (tile 1 kf qf vf) := by
  unfold k4_pay1 k4_pay6 k4_pay7 k4_pay4 k4_pay5
  simp only [shapeCast_self]
  have hE0 := pexp_is (score_is h0 hQ)
  have hE := mexp_is (c := cmpi .sgt (addi (broadcast S512x512 512#32) (iota .tc S512x512 32 [0] iota_S512x512_d0_w32)) (addi (broadcast S512x512 (Scalar.addi 512#32 0#32)) (iota .tc S512x512 32 [1] iota_S512x512_d1_w32)))
    (score_is h1 hQ) (fun i => diag_word (c := 512) (by norm_num) (idx2_lt0 i) (idx2_lt1 i))
  refine tile_of (Is2.addf (pv_is g0 hE0) (pv_is g1 hE)) (Is2.addf (csum_is hE0 _ _) (csum_is hE _ _)) (fun d b hb => sum_tile1 kf qf (fun t => vf t d) hb) (fun b hb => ?_)
  rw [sum_tile1 kf qf (fun _ => 1) hb]
  simp only [one_mul]

/-- Tile 2. -/
theorem tile2_is (hQ : Is2 Q qf) (h0 : Is2 C0 (rows 0 kf)) (h1 : Is2 C1 (rows 512 kf)) (h2 : Is2 C2 (rows 1024 kf)) (g0 : Is2 V0 (rows 0 vf)) (g1 : Is2 V1 (rows 512 vf))
    (g2 : Is2 V2 (rows 1024 vf)) :
    Is2 (k4_pay2 (F := Ideal) (k4_pay10 Q C0 C1) (k4_pay11 Q C0 V0 C1 V1) (k4_pay12 Q C2) (k4_pay13 (F := Ideal) 0#32) k4_pay14 V2) (tile 2 kf qf vf) := by
  unfold k4_pay2 k4_pay10 k4_pay11 k4_pay12 k4_pay13 k4_pay14 k4_pay8 k4_pay9
  simp only [shapeCast_self]
  have hE0 := pexp_is (score_is h0 hQ)
  have hE1 := pexp_is (score_is h1 hQ)
  have hE := mexp_is (c := cmpi .sgt (addi (broadcast S512x512 1024#32) (iota .tc S512x512 32 [0] iota_S512x512_d0_w32)) (addi (broadcast S512x512 (Scalar.addi 1024#32 0#32)) (iota .tc S512x512 32 [1] iota_S512x512_d1_w32)))
    (score_is h2 hQ) (fun i => diag_word (c := 1024) (by norm_num) (idx2_lt0 i) (idx2_lt1 i))
  refine tile_of (Is2.addf (Is2.addf (pv_is g0 hE0) (pv_is g1 hE1)) (pv_is g2 hE)) (Is2.addf (Is2.addf (csum_is hE0 _ _) (csum_is hE1 _ _)) (csum_is hE _ _))
    (fun d b hb => sum_tile2 kf qf (fun t => vf t d) hb) (fun b hb => ?_)
  rw [sum_tile2 kf qf (fun _ => 1) hb]
  simp only [one_mul]

/-- Tile 3. -/
theorem tile3_is (hQ : Is2 Q qf) (h0 : Is2 C0 (rows 0 kf)) (h1 : Is2 C1 (rows 512 kf)) (h2 : Is2 C2 (rows 1024 kf)) (h3 : Is2 C3 (rows 1536 kf)) (g0 : Is2 V0 (rows 0 vf)) (g1 : Is2 V1 (rows 512 vf))
    (g2 : Is2 V2 (rows 1024 vf)) (g3 : Is2 V3 (rows 1536 vf)) :
    Is2 (k4_pay3 (F := Ideal) 0#32 Q (k4_pay17 Q C0 C1) (k4_pay18 Q C0 V0 C1 V1) (k4_pay20 Q C2) (k4_pay21 V2) (k4_pay22 Q C2) C3 V3) (tile 3 kf qf vf) := by
  unfold k4_pay3 k4_pay17 k4_pay18 k4_pay20 k4_pay21 k4_pay22 k4_pay15 k4_pay16 k4_pay19
  simp only [shapeCast_self]
  have hE0 := pexp_is (score_is h0 hQ)
  have hE1 := pexp_is (score_is h1 hQ)
  have hE2 := pexp_is (score_is h2 hQ)
  have hE := mexp_is (c := cmpi .sgt (addi (broadcast S512x512 1536#32) (iota .tc S512x512 32 [0] iota_S512x512_d0_w32)) (addi (broadcast S512x512 (Scalar.addi 1536#32 0#32)) (iota .tc S512x512 32 [1] iota_S512x512_d1_w32)))
    (score_is h3 hQ) (fun i => diag_word (c := 1536) (by norm_num) (idx2_lt0 i) (idx2_lt1 i))
  refine tile_of (Is2.addf (Is2.addf (Is2.addf (pv_is g0 hE0) (pv_is g1 hE1)) (pv_is g2 hE2)) (pv_is g3 hE)) (Is2.addf (Is2.addf (Is2.addf (csum_is hE0 _ _) (csum_is hE1 _ _)) (csum_is hE2 _ _)) (csum_is hE _ _))
    (fun d b hb => sum_tile3 kf qf (fun t => vf t d) hb) (fun b hb => ?_)
  rw [sum_tile3 kf qf (fun _ => 1) hb]
  simp only [one_mul]

end Cert.Val

end
-- ==== Proof.Value.Tiles.lean ====
/-
  The scratch arrays of region 4 and the four query tiles, read as real functions.
-/
module

public import proofs.«01_k».proof.Proof.Value.PayAttn
public import proofs.«01_k».proof.Proof.KernelIdeal.Region4Run
public import Idealize.ShloMosaic.Lib.Pipeline.ValueKit.Geometry
public import Idealize.ShloMosaic.Lib.Pipeline.ValueKit.Tiles

@[expose] public section

set_option maxRecDepth 16384

noncomputable section

namespace Cert.Val

open Idealize.ShloMosaic Idealize.ShloMosaic.ValueIdx Idealize.ShloMosaic.TcCoe
open Cert.KernelIdeal Cert.KernelIdeal.Gen Cert.KernelIdeal.Own
open scoped BigOperators

/-- Two blocks of columns stored side by side. -/
theorem canon_two {n k l m : ℕ} (i0 : ∀ a, (![0, 0] : Fin 2 → ℕ) a + (![n, k] : Fin 2 → ℕ) a ≤ (⟨2, ![n, m]⟩ : Shape).size a)
    (i1 : ∀ a, (![0, k] : Fin 2 → ℕ) a + (![n, l] : Fin 2 → ℕ) a ≤ (⟨2, ![n, m]⟩ : Shape).size a) (hm : m ≤ k + l)
    {P0 : FVec Ideal ⟨2, ![n, k]⟩ .bf16} {P1 : FVec Ideal ⟨2, ![n, l]⟩ .bf16} {f g : ℕ → ℕ → ℝ} (h0 : Is2 P0 f) (h1 : Is2 P1 g) :
    Is2 (View.canon (Val := Elt Ideal) (e := .bf16) [⟨Rect.unit (s := ⟨2, ![n, m]⟩) ![0, k] ![n, l] i1, P1⟩, ⟨Rect.unit (s := ⟨2, ![n, m]⟩) ![0, 0] ![n, k] i0, P0⟩])
      (fun a b => if b < k then f a b else g a (b - k)) := fun y => by
  have hy0 := idx2_lt0 y
  have hy1 := idx2_lt1 y
  show _ = (((if (y 1).val < k then f (y 0).val (y 1).val else g (y 0).val ((y 1).val - k)) : ℝ) : EReal)
  by_cases hlt : (y 1).val < k
  · rw [if_pos hlt, View.canon_cons_of_not_mem _ _ (fun hmem => by
      have := ((Rect.mem_set_unit (s := ⟨2, ![n, m]⟩) (off := ![0, k]) (size := ![n, l]) (inb := i1) (i := y)).mp hmem 1).1
      have h2 : k ≤ (y 1).val := this
      omega)]
    have e : y = (Rect.unit (s := ⟨2, ![n, m]⟩) ![0, 0] ![n, k] i0).emb (ix2 ⟨(y 0).val, hy0⟩ ⟨(y 1).val, hlt⟩) := funext fun a => Fin.ext (by
      rw [ValueKit.rect_emb_unit_val]
      match a with
      | ⟨0, _⟩ => exact (Nat.zero_add _).symm
      | ⟨1, _⟩ => exact (Nat.zero_add _).symm)
    refine ((congrArg _ e).trans (View.canon_cons_emb (Val := Elt Ideal) (e := .bf16) (Rect.unit (s := ⟨2, ![n, m]⟩) ![0, 0] ![n, k] i0) P0 [] _)).trans ?_
    exact h0 _
  · rw [if_neg hlt]
    have e : y = (Rect.unit (s := ⟨2, ![n, m]⟩) ![0, k] ![n, l] i1).emb (ix2 ⟨(y 0).val, hy0⟩ ⟨(y 1).val - k, by omega⟩) := funext fun a => Fin.ext (by
      rw [ValueKit.rect_emb_unit_val]
      match a with
      | ⟨0, _⟩ => exact (Nat.zero_add _).symm
      | ⟨1, _⟩ =>
        show (y 1).val = k + ((y 1).val - k)
        omega)
    refine ((congrArg _ e).trans (View.canon_cons_emb (Val := Elt Ideal) (e := .bf16) (Rect.unit (s := ⟨2, ![n, m]⟩) ![0, k] ![n, l] i1) P1 _ _)).trans ?_
    exact h1 _

/-- A block of rows loaded. -/
theorem ld_rows {n m r : ℕ} {K : FVec Ideal ⟨2, ![n, m]⟩ .bf16} {f : ℕ → ℕ → ℝ} (hK : Is2 K f) (o : ℕ)
    (inb : ∀ a, (![o, 0] : Fin 2 → ℕ) a + (![r, m] : Fin 2 → ℕ) a ≤ (⟨2, ![n, m]⟩ : Shape).size a) :
    Is2 (n := r) (m := m) (View.ld (Val := Elt Ideal) (e' := .bf16) K (Rect.unit (s := ⟨2, ![n, m]⟩) ![o, 0] ![r, m] inb)) (rows o f) := fun x => by
  have hx0 : (x 0).val < r := (x 0).isLt
  have hx1 : (x 1).val < m := (x 1).isLt
  have h := inb 0
  have h' : o + r ≤ n := h
  refine (View.ld_unit_apply_of (Val := Elt Ideal) (S := ⟨2, ![n, m]⟩) (e := .bf16) K ![o, 0] ![r, m] inb x (ix2 ⟨o + (x 0).val, by omega⟩ ⟨(x 1).val, hx1⟩) (fun a => by
    match a with
    | ⟨0, _⟩ => rfl
    | ⟨1, _⟩ => exact (Nat.zero_add _).symm)).trans ?_
  exact hK _

/-- The bit choosing the half of the rotary columns, by the head's parity. -/
def headBit (g : ℕ) : BitVec 1 :=
  let arg0 : BitVec 32 := BitVec.ofNat 32 g
  let v0 : BitVec 1 := Scalar.cmpi .eq 2#32 0#32
  let v1 : BitVec 32 := Scalar.select v0 1#32 2#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.cmpi .eq v9 1#32
theorem headBit_eq : ∀ g : Fin 32, headBit g.val = BitVec.ofBool (decide (g.val % 2 = 1)) := by decide +kernel

/-- A whole-array choice by the head's parity. -/
theorem headSel {n : ℕ} {φ : FTy} {A B : FVec Ideal ⟨2, ![n, 64]⟩ φ} {f : ℕ → ℕ → ℝ} (g : Fin 32) (hA : Is2 A (fun a b => f a (64 + b)))
    (hB : Is2 B (fun a b => f a (0 + b))) : Is2 (Scalar.select (headBit g.val) A B) (fun a b => f a (g.val % 2 * 64 + b)) := fun i => by
  rw [headBit_eq g, WordCmp.select_decide]
  by_cases h : g.val % 2 = 1
  · rw [if_pos h, hA i]
    show _ = ((f (i 0).val (g.val % 2 * 64 + (i 1).val) : ℝ) : EReal)
    rw [h]
  · rw [if_neg h, hB i]
    show _ = ((f (i 0).val (g.val % 2 * 64 + (i 1).val) : ℝ) : EReal)
    rw [show g.val % 2 = 0 by omega]

/-- The key scratch. -/
theorem kcat_is (i : grid4.Coords) {x3 x4 : FVec Ideal ⟨2, ![2048, 128]⟩ .bf16} {f3 f4 : ℕ → ℕ → ℝ} (h3 : Is2 x3 f3) (h4 : Is2 x4 f4) :
    Is2 (n := 2048) (m := 192) (kcat (F := Ideal) i x3 x4) (fun a b => if b < 128 then f4 a b else f3 a ((i 0).val % 2 * 64 + (b - 128))) := by
  unfold kcat
  rw [View.ld_unit_lit _ _ (by decide), View.ld_unit_lit _ _ (by decide)]
  have hp1 : Is2 (k4_pay24 (F := Ideal) i x3) (fun a b => f3 a ((i 0).val % 2 * 64 + b)) := by
    unfold k4_pay24
    simp only [shapeCast_self]
    exact headSel (i 0) (Is2.slice h3 64 slices_S2048x128_o0_64_S2048x64) (Is2.slice h3 0 slices_S2048x128_o0_0_S2048x64)
  have hp0 : Is2 (k4_pay23 (F := Ideal) x4) f4 := by
    unfold k4_pay23
    simp only [shapeCast_self]
    exact h4
  exact canon_two (m := 192) inb_S2048x192_S2048x128_0_0 inb_S2048x192_S2048x64_0_128 (by norm_num) hp0 hp1

/-- The query scratch. -/
theorem qcat_is (i : grid4.Coords) {x1 x2 : FVec Ideal ⟨2, ![512, 128]⟩ .bf16} {f1 f2 : ℕ → ℕ → ℝ} (h1 : Is2 x1 f1) (h2 : Is2 x2 f2) :
    Is2 (n := 512) (m := 192) (qcat (F := Ideal) i x1 x2) (fun a b => if b < 128 then f1 a b else f2 a ((i 0).val % 2 * 64 + (b - 128))) := by
  unfold qcat
  rw [View.ld_unit_lit _ _ (by decide), View.ld_unit_lit _ _ (by decide)]
  have hp1 : Is2 (k4_pay26 (F := Ideal) i x2) (fun a b => f2 a ((i 0).val % 2 * 64 + b)) := by
    unfold k4_pay26
    simp only [shapeCast_self]
    exact headSel (i 0) (Is2.slice h2 64 slices_S512x128_o0_64_S512x64) (Is2.slice h2 0 slices_S512x128_o0_0_S512x64)
  have hp0 : Is2 (k4_pay25 (F := Ideal) x1) f1 := by
    unfold k4_pay25
    simp only [shapeCast_self]
    exact h1
  exact canon_two (m := 192) inb_S512x192_S512x128_0_0 inb_S512x192_S512x64_0_128 (by norm_num) hp0 hp1

variable {K : FVec Ideal ⟨2, ![2048, 192]⟩ .bf16} {Q : FVec Ideal ⟨2, ![512, 192]⟩ .bf16} {X : FVec Ideal ⟨2, ![2048, 128]⟩ .bf16} {kf qf vf : ℕ → ℕ → ℝ}

/-- The whole query scratch loaded. -/
theorem ld_query (hQ : Is2 Q qf) : Is2 (n := 512) (m := 192) (View.ld (Val := Elt Ideal) (e' := .bf16) Q rQ) qf := by
  rw [View.ld_unit_lit _ _ (by decide)]
  exact hQ
/-- Query tile 0. -/
theorem attn0_is (hK : Is2 K kf) (hQ : Is2 Q qf) (hX : Is2 X vf) : Is2 (n := 128) (m := 512) (attn0 (F := Ideal) 0#32 K Q X) (tile 0 kf qf vf) := by
  unfold attn0
  rw [View.canon_cons_unit_lit _ _ _ (by decide)]
  have hQ' := ld_query hQ
  exact tile0_is hQ' (ld_rows hK 0 _) (ld_rows hX 0 _)
/-- Query tile 1. -/
theorem attn1_is (hK : Is2 K kf) (hQ : Is2 Q qf) (hX : Is2 X vf) : Is2 (n := 128) (m := 512) (attn1 (F := Ideal) 0#32 K Q X) (tile 1 kf qf vf) := by
  unfold attn1
  rw [View.canon_cons_unit_lit _ _ _ (by decide)]
  have hQ' := ld_query hQ
  exact tile1_is hQ' (ld_rows hK 0 _) (ld_rows hK 512 _) (ld_rows hX 0 _) (ld_rows hX 512 _)
/-- Query tile 2. -/
theorem attn2_is (hK : Is2 K kf) (hQ : Is2 Q qf) (hX : Is2 X vf) : Is2 (n := 128) (m := 512) (attn2 (F := Ideal) 0#32 K Q X) (tile 2 kf qf vf) := by
  unfold attn2
  rw [View.canon_cons_unit_lit _ _ _ (by decide)]
  have hQ' := ld_query hQ
  exact tile2_is hQ' (ld_rows hK 0 _) (ld_rows hK 512 _) (ld_rows hK 1024 _) (ld_rows hX 0 _) (ld_rows hX 512 _) (ld_rows hX 1024 _)
/-- Query tile 3. -/
theorem attn3_is (hK : Is2 K kf) (hQ : Is2 Q qf) (hX : Is2 X vf) : Is2 (n := 128) (m := 512) (attn3 (F := Ideal) 0#32 K Q X) (tile 3 kf qf vf) := by
  unfold attn3
  rw [View.canon_cons_unit_lit _ _ _ (by decide)]
  have hQ' := ld_query hQ
  exact tile3_is hQ' (ld_rows hK 0 _) (ld_rows hK 512 _) (ld_rows hK 1024 _) (ld_rows hK 1536 _) (ld_rows hX 0 _) (ld_rows hX 512 _) (ld_rows hX 1024 _)
    (ld_rows hX 1536 _)

end Cert.Val

end
-- ==== Proof.Value.Reg4.lean ====
/-
  The array left by region 4, the attention over query tiles.
-/
module

public import proofs.«01_k».proof.Proof.Value.Tiles
public import proofs.«01_k».proof.Proof.KernelIdeal.Region4

@[expose] public section

set_option maxRecDepth 16384

noncomputable section

namespace Cert.Val

open Idealize.ShloMosaic Idealize.ShloMosaic.ValueIdx Idealize.ShloMosaic.TcCoe
open Cert.KernelIdeal Cert.KernelIdeal.Gen Cert.KernelIdeal.Own
open scoped BigOperators

/-- Content columns beside rotary columns. -/
def cat (f g : ℕ → ℕ → ℝ) (h n k : ℕ) : ℝ := if k < 128 then f n (h * 128 + k) else g n (h * 64 + (k - 128))

/-- The attention output, transposed: head and column `j`, flat row `n`. -/
def ctxT (ke kr qc qr ve : ℕ → ℕ → ℝ) (j n : ℕ) : ℝ :=
  tile (n % 2048 / 512) (fun t k => cat ke kr (j / 128) (n / 2048 * 2048 + t) k)
    (fun b k => cat qc qr (j / 128) (n / 512 * 512 + b) k) (fun t d => ve (n / 2048 * 2048 + t) (j / 128 * 128 + d)) (j % 128) (n % 512)

variable (V : (c : Dev nD) → (b : Ref sig .tc) → Buf (Elt Ideal) ((c : Thread nD τ).loc b))

theorem index4_1 : ∀ t : Fin cfg4.N, win4_1.index t = ![t.val / 64 * 4 + t.val % 4, t.val / 4 % 16] := (by decide +kernel : ∀ t : Fin grid4.N, _)
theorem index4_2 : ∀ t : Fin cfg4.N, win4_2.index t = ![t.val / 64 * 4 + t.val % 4, t.val / 4 % 16 / 2] := (by decide +kernel : ∀ t : Fin grid4.N, _)
theorem index4_3 : ∀ t : Fin cfg4.N, win4_3.index t = ![t.val / 64, t.val / 4 % 16 / 2] := (by decide +kernel : ∀ t : Fin grid4.N, _)
theorem index4_4 : ∀ t : Fin cfg4.N, win4_4.index t = ![t.val / 64, t.val / 4 % 16] := (by decide +kernel : ∀ t : Fin grid4.N, _)
theorem index4_5 : ∀ t : Fin cfg4.N, win4_5.index t = ![t.val / 64, t.val / 4 % 16] := (by decide +kernel : ∀ t : Fin grid4.N, _)
theorem index4_6 : ∀ t : Fin cfg4.N, win4_6.index t = ![t.val / 4 % 16, t.val / 64 * 4 + t.val % 4] := (by decide +kernel : ∀ t : Fin grid4.N, _)
theorem coords4 : ∀ t : Fin grid4.N, (grid4.coords t 0).val = t.val / 4 := by decide +kernel

theorem iblk4_1_is (c : Dev nD) {x : ℕ → ℕ → ℝ} (hx : Is2 (n := 4096) (m := 2048) (V c main_v5) x) (t : Fin cfg4.N) :
    Is2 (n := 512) (m := 128) (iblk4 V c 1 t) (fun a b => x ((t.val / 64 * 4 + t.val % 4) * 512 + a) (t.val / 4 % 16 * 128 + b)) := fun y => by
  refine (hx ((win4_1.blk t).view.emb y)).trans ?_
  blk_simp [index4_1]
theorem iblk4_2_is (c : Dev nD) {x : ℕ → ℕ → ℝ} (hx : Is2 (n := 4096) (m := 1024) (V c main_v32) x) (t : Fin cfg4.N) :
    Is2 (n := 512) (m := 128) (iblk4 V c 2 t) (fun a b => x ((t.val / 64 * 4 + t.val % 4) * 512 + a) (t.val / 4 % 16 / 2 * 128 + b)) := fun y => by
  refine (hx ((win4_2.blk t).view.emb y)).trans ?_
  blk_simp [index4_2]
theorem iblk4_3_is (c : Dev nD) {x : ℕ → ℕ → ℝ} (hx : Is2 (n := 4096) (m := 1024) (V c main_v31) x) (t : Fin cfg4.N) :
    Is2 (n := 2048) (m := 128) (iblk4 V c 3 t) (fun a b => x (t.val / 64 * 2048 + a) (t.val / 4 % 16 / 2 * 128 + b)) := fun y => by
  refine (hx ((win4_3.blk t).view.emb y)).trans ?_
  blk_simp [index4_3]
theorem iblk4_4_is (c : Dev nD) {x : ℕ → ℕ → ℝ} (hx : Is2 (n := 4096) (m := 2048) (V c main_v4_0) x) (t : Fin cfg4.N) :
    Is2 (n := 2048) (m := 128) (iblk4 V c 4 t) (fun a b => x (t.val / 64 * 2048 + a) (t.val / 4 % 16 * 128 + b)) := fun y => by
  refine (hx ((win4_4.blk t).view.emb y)).trans ?_
  blk_simp [index4_4]
theorem iblk4_5_is (c : Dev nD) {x : ℕ → ℕ → ℝ} (hx : Is2 (n := 4096) (m := 2048) (V c main_v4_1) x) (t : Fin cfg4.N) :
    Is2 (n := 2048) (m := 128) (iblk4 V c 5 t) (fun a b => x (t.val / 64 * 2048 + a) (t.val / 4 % 16 * 128 + b)) := fun y => by
  refine (hx ((win4_5.blk t).view.emb y)).trans ?_
  blk_simp [index4_5]

theorem lt128 (t : Fin cfg4.N) : t.val < 128 := lt_of_lt_of_eq t.isLt N_4

/-- The offset word of every step is the offset argument. -/
theorem offs_is (c : Dev nD) (h : ∀ i, (V c main_v2 : IVec S1 32) i = 0#32) (t : Fin cfg4.N) : offs (F := Ideal) (iblk4 V c 0 t) = (0#32 : BitVec 32) :=
  h _

variable {ke kr qc qr ve : ℕ → ℕ → ℝ}

/-- The key scratch at a step. -/
theorem kst_is (c : Dev nD) (hk : Is2 (n := 4096) (m := 2048) (V c main_v4_0) ke) (hr : Is2 (n := 4096) (m := 1024) (V c main_v31) kr) (t : Fin cfg4.N) :
    Is2 (n := 2048) (m := 192) (kst V c t.val) (fun a k => cat ke kr (t.val / 4 % 16) (t.val / 64 * 2048 + a) k) := by
  have ht := lt128 t
  have e : (headPt t.val).val = 4 * (t.val / 4) := by
    show 4 * (t.val / 4) % 128 = _
    omega
  refine (kcat_is (grid4.coords (headPt t.val)) (iblk4_3_is V c hr (headPt t.val)) (iblk4_4_is V c hk (headPt t.val))).congr fun a k _ _ => ?_
  rw [coords4, e]
  unfold cat
  rw [show 4 * (t.val / 4) / 64 = t.val / 64 by omega, show 4 * (t.val / 4) / 4 = t.val / 4 by omega]
  split
  · rfl
  · congr 1
    omega

/-- The query scratch at a step. -/
theorem qst_is (c : Dev nD) (hq : Is2 (n := 4096) (m := 2048) (V c main_v5) qc) (hr : Is2 (n := 4096) (m := 1024) (V c main_v32) qr) (t : Fin cfg4.N) :
    Is2 (n := 512) (m := 192) (qcat (F := Ideal) (grid4.coords t) (iblk4 V c 1 t) (iblk4 V c 2 t))
      (fun a k => cat qc qr (t.val / 4 % 16) ((t.val / 64 * 4 + t.val % 4) * 512 + a) k) := by
  refine (qcat_is (grid4.coords t) (iblk4_1_is V c hq t) (iblk4_2_is V c hr t)).congr fun a k _ _ => ?_
  rw [coords4]
  unfold cat
  split
  · rfl
  · congr 1
    omega

/-- The output block of a step. -/
theorem outAt4_is (c : Dev nD) (ho : ∀ i, (V c main_v2 : IVec S1 32) i = 0#32) (hk : Is2 (n := 4096) (m := 2048) (V c main_v4_0) ke)
    (hkr : Is2 (n := 4096) (m := 1024) (V c main_v31) kr) (hq : Is2 (n := 4096) (m := 2048) (V c main_v5) qc) (hqr : Is2 (n := 4096) (m := 1024) (V c main_v32) qr)
    (hv : Is2 (n := 4096) (m := 2048) (V c main_v4_1) ve) (t : Fin cfg4.N) :
    Is2 (n := 128) (m := 512) (outAt4 V c t) (tile (t.val % 4) (fun a k => cat ke kr (t.val / 4 % 16) (t.val / 64 * 2048 + a) k)
      (fun a k => cat qc qr (t.val / 4 % 16) ((t.val / 64 * 4 + t.val % 4) * 512 + a) k) (fun a d => ve (t.val / 64 * 2048 + a) (t.val / 4 % 16 * 128 + d))) := by
  have hK := kst_is V c hk hkr t
  have hQ := qst_is V c hq hqr t
  have hV := iblk4_5_is V c hv t
  unfold outAt4
  rw [offs_is V c ho t]
  by_cases h0 : t.val % 4 = 0
  · rw [if_pos h0, h0]
    rw [h0] at hQ
    exact attn0_is hK hQ hV
  by_cases h1 : t.val % 4 = 1
  · rw [if_neg h0, if_pos h1, h1]
    rw [h1] at hQ
    exact attn1_is hK hQ hV
  by_cases h2 : t.val % 4 = 2
  · rw [if_neg h0, if_neg h1, if_pos h2, h2]
    rw [h2] at hQ
    exact attn2_is hK hQ hV
  · have h3 : t.val % 4 = 3 := by omega
    rw [if_neg h0, if_neg h1, if_neg h2, h3]
    rw [h3] at hQ
    exact attn3_is hK hQ hV

/-- The array region 4 leaves. -/
theorem reg4_is (c : Dev nD) (ho : ∀ i, (V c main_v2 : IVec S1 32) i = 0#32) (hk : Is2 (n := 4096) (m := 2048) (V c main_v4_0) ke)
    (hkr : Is2 (n := 4096) (m := 1024) (V c main_v31) kr) (hq : Is2 (n := 4096) (m := 2048) (V c main_v5) qc) (hqr : Is2 (n := 4096) (m := 1024) (V c main_v32) qr)
    (hv : Is2 (n := 4096) (m := 2048) (V c main_v4_1) ve) : Is2 (n := 2048) (m := 4096) ((dat4 V c).arrAt 6 cfg4.N) (ctxT ke kr qc qr ve) := by
  have e : (dat4 V c).arrAt 6 cfg4.N = fun i => ((ctxT ke kr qc qr ve (i 0).val (i 1).val : ℝ) : EReal) := by
    refine (dat4 V c).arrAt_eq_of_covers 6 _ (by decide +kernel) fun t hf y => ?_
    blk_simp
    rw [after4_6]
    refine (outAt4_is V c ho hk hkr hq hqr hv t y).trans ?_
    blk_simp [index4_6]
    have ht := lt128 t
    have hy0 : (y 0).val < 128 := (y 0).isLt
    have hy1 : (y 1).val < 512 := (y 1).isLt
    unfold ctxT
    rw [show ((t.val / 64 * 4 + t.val % 4) * 512 + (y 1).val) % 2048 / 512 = t.val % 4 by omega,
      show ((t.val / 64 * 4 + t.val % 4) * 512 + (y 1).val) / 2048 = t.val / 64 by omega,
      show ((t.val / 64 * 4 + t.val % 4) * 512 + (y 1).val) / 512 = t.val / 64 * 4 + t.val % 4 by omega,
      show ((t.val / 64 * 4 + t.val % 4) * 512 + (y 1).val) % 512 = (y 1).val by omega,
      show (t.val / 4 % 16 * 128 + (y 0).val) / 128 = t.val / 4 % 16 by omega,
      show (t.val / 4 % 16 * 128 + (y 0).val) % 128 = (y 0).val by omega]
  rw [e]
  exact fun _ => rfl

end Cert.Val

end
-- ==== Proof.Value.Attn.lean ====
/-
  The kernel's tile and the reference's context are one real number.
-/
module

public import proofs.«01_k».proof.Proof.Value.Score
public import proofs.«01_k».proof.Proof.Value.Reg4

@[expose] public section

set_option maxRecDepth 16384

noncomputable section

namespace Cert.Val

open scoped BigOperators
open Finset (range)

/-- A weight of the tile is the causal exponential up to a factor that does not depend on the key. -/
theorem wt_eq (c : ℕ) (kf qf : ℕ → ℕ → ℝ) (b : ℕ) {S : ℕ → ℝ} (M : ℝ) (hS : ∀ t, lin 192 kf qf t b * Real.log 2 = S t) (t : ℕ) :
    wt c kf qf t b = ecaus (S t) M t (c * 512 + b) * Real.exp (M - Real.log 2 * shift) := by
  unfold wt ecaus
  split
  · rw [Real.rpow_def_of_pos (by norm_num), ← Real.exp_add, ← hS t]
    congr 1
    ring
  · rw [zero_mul]
/-- The tile is the causal softmax applied to the values. -/
theorem tile_eq (c : ℕ) (kf qf vf : ℕ → ℕ → ℝ) (d b : ℕ) {S : ℕ → ℝ} (M : ℝ) (hS : ∀ t, lin 192 kf qf t b * Real.log 2 = S t) :
    tile c kf qf vf d b = ∑ t ∈ range 2048, ecaus (S t) M t (c * 512 + b) / (∑ u ∈ range 2048, ecaus (S u) M u (c * 512 + b)) * vf t d := by
  have hp := (ecaus_sum_pos S M (c * 512 + b)).ne'
  have hE := (Real.exp_pos (M - Real.log 2 * shift)).ne'
  unfold tile
  simp only [wt_eq c kf qf b M hS]
  rw [← Finset.sum_mul, show ∑ t ∈ range 2048, vf t d * (ecaus (S t) M t (c * 512 + b) * Real.exp (M - Real.log 2 * shift))
      = (∑ t ∈ range 2048, vf t d * ecaus (S t) M t (c * 512 + b)) * Real.exp (M - Real.log 2 * shift) by
    rw [Finset.sum_mul]
    exact Finset.sum_congr rfl fun t _ => by ring, mul_div_mul_right _ _ hE, Finset.sum_div]
  exact Finset.sum_congr rfl fun t _ => by ring
/-- The contraction over the joined columns. -/
theorem lin_cat (f g f' g' : ℕ → ℕ → ℝ) (h B N t b : ℕ) :
    lin 192 (fun t k => cat f g h (B + t) k) (fun b k => cat f' g' h (N + b) k) t b
      = ∑ k ∈ range 128, f (B + t) (h * 128 + k) * f' (N + b) (h * 128 + k) + ∑ r ∈ range 64, g (B + t) (h * 64 + r) * g' (N + b) (h * 64 + r) := by
  unfold lin
  rw [show 192 = 128 + 64 from rfl, Finset.sum_range_add]
  refine congrArg₂ (· + ·) (Finset.sum_congr rfl fun k hk => ?_) (Finset.sum_congr rfl fun k hk => ?_)
  · have := Finset.mem_range.1 hk
    show cat f g h (B + t) k * cat f' g' h (N + b) k = _
    unfold cat
    rw [if_pos this, if_pos this]
  · show cat f g h (B + t) (128 + k) * cat f' g' h (N + b) (128 + k) = _
    unfold cat
    rw [if_neg (by omega), if_neg (by omega), Nat.add_sub_cancel_left]
/-- The score from scaled keys. -/
theorem score_eq (cn wuk qc qr kr : ℕ → ℕ → ℝ) (h n t : ℕ) :
    (∑ k ∈ range 128, lin 512 cn wuk t (h * 128 + k) * kap * qc n (h * 128 + k) + ∑ r ∈ range 64, kr t (h * 64 + r) * kap * qr n (h * 64 + r)) * Real.log 2
      = score cn wuk qc qr kr h n t := by
  have hl : kap * Real.log 2 = (Real.sqrt 192)⁻¹ := by
    unfold kap
    rw [mul_assoc, inv_mul_cancel₀ (Real.log_pos (by norm_num)).ne', mul_one]
  have e1 : ∑ k ∈ range 128, lin 512 cn wuk t (h * 128 + k) * kap * qc n (h * 128 + k)
      = (∑ l ∈ range 512, (∑ k ∈ range 128, wuk (h * 128 + k) l * qc n (h * 128 + k)) * cn t l) * kap := by
    simp only [Finset.sum_mul]
    rw [Finset.sum_comm]
    refine Finset.sum_congr rfl fun k _ => ?_
    unfold lin
    rw [Finset.sum_mul, Finset.sum_mul]
    exact Finset.sum_congr rfl fun l _ => by ring
  have e2 : ∑ r ∈ range 64, kr t (h * 64 + r) * kap * qr n (h * 64 + r) = (∑ r ∈ range 64, qr n (h * 64 + r) * kr t (h * 64 + r)) * kap := by
    rw [Finset.sum_mul]
    exact Finset.sum_congr rfl fun r _ => by ring
  rw [e1, e2, ← add_mul, mul_assoc, hl]
  rfl
/-- The context of the kernel is the context of the reference. -/
theorem ctx_eq (cn wuk wuv qc qr kr : ℕ → ℕ → ℝ) (M : ℝ) (j n : ℕ) :
    ctxT (fun n j => lin 512 cn wuk n j * kap) (fun n j => kr n j * kap) qc qr (lin 512 cn wuv) j n
      = ∑ l ∈ range 512, wuv j l * ∑ t ∈ range 2048, ecaus (score cn wuk qc qr kr (j / 128) n (n / 2048 * 2048 + t)) M t (n % 2048)
          / (∑ u ∈ range 2048, ecaus (score cn wuk qc qr kr (j / 128) n (n / 2048 * 2048 + u)) M u (n % 2048)) * cn (n / 2048 * 2048 + t) l := by
  unfold ctxT
  rw [tile_eq (S := fun t => score cn wuk qc qr kr (j / 128) n (n / 2048 * 2048 + t)) (M := M) (hS := fun t => by
      rw [lin_cat, show n / 512 * 512 + n % 512 = n by omega]
      exact score_eq cn wuk qc qr kr (j / 128) n (n / 2048 * 2048 + t)),
    show n % 2048 / 512 * 512 + n % 512 = n % 2048 by omega, show j / 128 * 128 + j % 128 = j by omega]
  simp only [Finset.mul_sum]
  rw [Finset.sum_comm]
  refine Finset.sum_congr rfl fun t _ => ?_
  unfold lin
  rw [Finset.mul_sum]
  exact Finset.sum_congr rfl fun l _ => by ring
/-- A scaled array's rotation is the scaled rotation. -/
theorem rope_scale (a co si : ℕ → ℕ → ℝ) (k : ℝ) (n j : ℕ) : rope (fun n j => a n j * k) co si n j = rope a co si n j * k := by
  show a n j * k * co n j + (if j % 64 < 32 then -(a n (j + 32) * k) else a n (j - 32) * k) * si n j
    = (a n j * co n j + (if j % 64 < 32 then -a n (j + 32) else a n (j - 32)) * si n j) * k
  split <;> ring

end Cert.Val

end
-- ==== Proof.Value.Reg0.lean ====
/-
  The arrays left by region 0, the latent keys and values.
-/
module

public import proofs.«01_k».proof.Proof.Value.Pay
public import proofs.«01_k».proof.Proof.KernelIdeal.Region0
public import Idealize.ShloMosaic.Lib.Pipeline.ValueKit.Geometry

@[expose] public section

set_option maxRecDepth 16384

noncomputable section

namespace Cert.Val

open Idealize.ShloMosaic Idealize.ShloMosaic.ValueIdx Idealize.ShloMosaic.TcCoe
open Cert.KernelIdeal Cert.KernelIdeal.Gen Cert.KernelIdeal.Own
open scoped BigOperators

variable (V : (c : Dev nD) → (b : Ref sig .tc) → Buf (Elt Ideal) ((c : Thread nD τ).loc b))

theorem index0_0 : ∀ t : Fin cfg0.N, win0_0.index t = ![0, 0] := (by decide +kernel : ∀ t : Fin grid0.N, _)
theorem index0_1 : ∀ t : Fin cfg0.N, win0_1.index t = ![t.val, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![0, 0] := (by decide +kernel : ∀ t : Fin grid0.N, _)
theorem index0_5 : ∀ t : Fin cfg0.N, win0_5.index t = ![t.val, 0] := (by decide +kernel : ∀ t : Fin grid0.N, _)
theorem index0_6 : ∀ t : Fin cfg0.N, win0_6.index t = ![t.val, 0] := (by decide +kernel : ∀ t : Fin grid0.N, _)

theorem iblk0_0_is (c : Dev nD) {x : ℕ → ℕ → ℝ} (hx : Is2 (n := 1) (m := 512) (V c main_v3) x) (t : Fin cfg0.N) :
    Is2 (n := 1) (m := 512) (iblk0 V c 0 t) (fun a b => x (a) (b)) := fun y => by
  refine (hx ((win0_0.blk t).view.emb y)).trans ?_
  blk_simp [index0_0]
theorem iblk0_1_is (c : Dev nD) {x : ℕ → ℕ → ℝ} (hx : Is2 (n := 4096) (m := 2048) (V c main_v1) x) (t : Fin cfg0.N) :
    Is2 (n := 512) (m := 2048) (iblk0 V c 1 t) (fun a b => x (t.val * 512 + a) (b)) := fun y => by
  refine (hx ((win0_1.blk t).view.emb y)).trans ?_
  blk_simp [index0_1]
theorem iblk0_2_is (c : Dev nD) {x : ℕ → ℕ → EReal} (hx : E2 (n := 512) (m := 2048) (V c main_arg1) x) (t : Fin cfg0.N) :
    E2 (n := 512) (m := 2048) (iblk0 V c 2 t) (fun a b => x (a) (b)) := fun y => by
  refine (hx ((win0_2.blk t).view.emb y)).trans ?_
  blk_simp [index0_2]
theorem iblk0_3_is (c : Dev nD) {x : ℕ → ℕ → ℝ} (hx : Is2 (n := 2048) (m := 512) (V c main_arg4) x) (t : Fin cfg0.N) :
    Is2 (n := 2048) (m := 512) (iblk0 V c 3 t) (fun a b => x (a) (b)) := fun y => by
  refine (hx ((win0_3.blk t).view.emb y)).trans ?_
  blk_simp [index0_3]
theorem iblk0_4_is (c : Dev nD) {x : ℕ → ℕ → ℝ} (hx : Is2 (n := 2048) (m := 512) (V c main_arg5) x) (t : Fin cfg0.N) :
    Is2 (n := 2048) (m := 512) (iblk0 V c 4 t) (fun a b => x (a) (b)) := fun y => by
  refine (hx ((win0_4.blk t).view.emb y)).trans ?_
  blk_simp [index0_4]
theorem reg0_5_is (c : Dev nD) {x wu : ℕ → ℕ → ℝ} {wd : ℕ → ℕ → EReal} {nw : ℕ → ℝ} (hx : Is2 (n := 4096) (m := 2048) (V c main_v1) x) (hd : E2 (n := 512) (m := 2048) (V c main_arg1) wd)
    (hn : Is2 (n := 1) (m := 512) (V c main_v3) (fun _ b => nw b)) (hu : Is2 (n := 2048) (m := 512) (V c main_arg4) wu) :
    Is2 (n := 4096) (m := 2048) ((dat0 V c).arrAt 5 cfg0.N) (fun n j => lin 512 (cnorm (linE 2048 x wd) nw) wu n j * kap) := by
  have e : (dat0 V c).arrAt 5 cfg0.N = fun i => (((fun n j => lin 512 (cnorm (linE 2048 x wd) nw) wu n j * kap) (i 0).val (i 1).val : ℝ) : EReal) := by
    refine (dat0 V c).arrAt_eq_of_covers 5 _ (by decide +kernel) fun t hf y => ?_
    blk_simp
    rw [after0_5]
    unfold out0_5
    rw [View.canon_cons_unit_lit _ _ _ (by decide)]
    rw [View.ld_unit_lit _ _ (by decide), View.ld_unit_lit _ _ (by decide), View.ld_unit_lit _ _ (by decide), View.ld_unit_lit _ _ (by decide)]
    refine (k0_pay2_is (iblk0_1_is V c hx t) (iblk0_2_is V c hd t) (iblk0_0_is V c hn t) (iblk0_3_is V c hu t) y).trans ?_
    blk_simp [index0_5]
    first | done | rfl | (congr 2)
  rw [e]
  exact fun _ => rfl
theorem reg0_6_is (c : Dev nD) {x wu : ℕ → ℕ → ℝ} {wd : ℕ → ℕ → EReal} {nw : ℕ → ℝ} (hx : Is2 (n := 4096) (m := 2048) (V c main_v1) x) (hd : E2 (n := 512) (m := 2048) (V c main_arg1) wd)
    (hn : Is2 (n := 1) (m := 512) (V c main_v3) (fun _ b => nw b)) (hu : Is2 (n := 2048) (m := 512) (V c main_arg5) wu) :
    Is2 (n := 4096) (m := 2048) ((dat0 V c).arrAt 6 cfg0.N) (lin 512 (cnorm (linE 2048 x wd) nw) wu) := by
  have e : (dat0 V c).arrAt 6 cfg0.N = fun i => (((lin 512 (cnorm (linE 2048 x wd) nw) wu) (i 0).val (i 1).val : ℝ) : EReal) := by
    refine (dat0 V c).arrAt_eq_of_covers 6 _ (by decide +kernel) fun t hf y => ?_
    blk_simp
    rw [after0_6]
    unfold out0_6
    rw [View.canon_cons_unit_lit _ _ _ (by decide)]
    rw [View.ld_unit_lit _ _ (by decide), View.ld_unit_lit _ _ (by decide), View.ld_unit_lit _ _ (by decide), View.ld_unit_lit _ _ (by decide)]
    refine (k0_pay3_is (iblk0_1_is V c hx t) (iblk0_2_is V c hd t) (iblk0_0_is V c hn t) (iblk0_4_is V c hu t) y).trans ?_
    blk_simp [index0_6]
    first | done | rfl | (congr 2)
  rw [e]
  exact fun _ => rfl

end Cert.Val

end
-- ==== Proof.Value.Reg1.lean ====
/-
  The arrays left by the content-query projection.
-/
module

public import proofs.«01_k».proof.Proof.Value.Pay
public import proofs.«01_k».proof.Proof.KernelIdeal.Region1
public import Idealize.ShloMosaic.Lib.Pipeline.ValueKit.Geometry

@[expose] public section

set_option maxRecDepth 16384

noncomputable section

namespace Cert.Val

open Idealize.ShloMosaic Idealize.ShloMosaic.ValueIdx Idealize.ShloMosaic.TcCoe
open Cert.KernelIdeal Cert.KernelIdeal.Gen Cert.KernelIdeal.Own
open scoped BigOperators

variable (V : (c : Dev nD) → (b : Ref sig .tc) → Buf (Elt Ideal) ((c : Thread nD τ).loc b))

theorem index1_0 : ∀ t : Fin cfg1.N, win1_0.index t = ![t.val % 4, 0] := (by decide +kernel : ∀ t : Fin grid1.N, _)
theorem index1_1 : ∀ t : Fin cfg1.N, win1_1.index t = ![t.val / 4, 0] := (by decide +kernel : ∀ t : Fin grid1.N, _)
theorem index1_2 : ∀ t : Fin cfg1.N, win1_2.index t = ![t.val % 4, t.val / 4] := (by decide +kernel : ∀ t : Fin grid1.N, _)

theorem iblk1_0_is (c : Dev nD) {x : ℕ → ℕ → ℝ} (hx : Is2 (n := 4096) (m := 2048) (V c main_v1) x) (t : Fin cfg1.N) :
    Is2 (n := 1024) (m := 2048) (iblk1 V c 0 t) (fun a b => x (t.val % 4 * 1024 + a) b) := fun y => by
  refine (hx ((win1_0.blk t).view.emb y)).trans ?_
  blk_simp [index1_0]

theorem iblk1_1_is (c : Dev nD) {x : ℕ → ℕ → ℝ} (hx : Is2 (n := 3072) (m := 2048) (V c main_arg3) x) (t : Fin cfg1.N) :
    Is2 (n := 1024) (m := 2048) (iblk1 V c 1 t) (fun a b => x (t.val / 4 * 1024 + a) b) := fun y => by
  refine (hx ((win1_1.blk t).view.emb y)).trans ?_
  blk_simp [index1_1]

theorem reg1_is (c : Dev nD) {x w : ℕ → ℕ → ℝ} (hx : Is2 (n := 4096) (m := 2048) (V c main_v1) x) (hw : Is2 (n := 3072) (m := 2048) (V c main_arg3) w) :
    Is2 (n := 4096) (m := 2048) ((dat1 V c).arrAt 2 cfg1.N) (lin 2048 x w) := by
  have e : (dat1 V c).arrAt 2 cfg1.N = fun i => ((lin 2048 x w (i 0).val (i 1).val : ℝ) : EReal) := by
    refine (dat1 V c).arrAt_eq_of_covers 2 _ (by decide +kernel) fun t hf y => ?_
    blk_simp
    rw [after1_2]
    unfold out1_2
    rw [View.canon_cons_unit_lit _ _ _ (by decide), View.ld_unit_lit _ _ (by decide), View.ld_unit_lit _ _ (by decide)]
    refine (k1_pay1_is (iblk1_1_is V c hw t) (iblk1_0_is V c hx t) y).trans ?_
    blk_simp [index1_2]
    rfl
  rw [e]
  exact fun _ => rfl

end Cert.Val

end
-- ==== Proof.Value.Congr.lean ====
/-
  The rotary formula at a row reads only that row.
-/
module

public import proofs.«01_k».proof.Proof.Value.Spec

@[expose] public section

noncomputable section

namespace Cert.Val

/-- Two rotary rows agree when the rows they read agree. -/
theorem rope_congr {a a' co co' si si' : ℕ → ℕ → ℝ} {n n' : ℕ} (j : ℕ) (ha : ∀ j, a n j = a' n' j)
    (hc : ∀ j, co n j = co' n' j) (hs : ∀ j, si n j = si' n' j) : rope a co si n j = rope a' co' si' n' j := by
  show a n j * co n j + (if j % 64 < 32 then -a n (j + 32) else a n (j - 32)) * si n j
    = a' n' j * co' n' j + (if j % 64 < 32 then -a' n' (j + 32) else a' n' (j - 32)) * si' n' j
  rw [ha, ha, ha, hc, hs]

end Cert.Val

end
-- ==== Proof.Value.Reg2.lean ====
/-
  The arrays left by region 2, the rotary keys.
-/
module

public import proofs.«01_k».proof.Proof.Value.Pay
public import proofs.«01_k».proof.Proof.Value.Congr
public import proofs.«01_k».proof.Proof.KernelIdeal.Region2
public import Idealize.ShloMosaic.Lib.Pipeline.ValueKit.Geometry

@[expose] public section

set_option maxRecDepth 16384

noncomputable section

namespace Cert.Val

open Idealize.ShloMosaic Idealize.ShloMosaic.ValueIdx Idealize.ShloMosaic.TcCoe
open Cert.KernelIdeal Cert.KernelIdeal.Gen Cert.KernelIdeal.Own
open scoped BigOperators

variable (V : (c : Dev nD) → (b : Ref sig .tc) → Buf (Elt Ideal) ((c : Thread nD τ).loc b))

theorem index2_0 : ∀ t : Fin cfg2.N, win2_0.index t = ![t.val, 0] := (by decide +kernel : ∀ t : Fin grid2.N, _)
theorem index2_1 : ∀ t : Fin cfg2.N, win2_1.index t = ![0, 0] := (by decide +kernel : ∀ t : Fin grid2.N, _)
theorem index2_2 : ∀ t : Fin cfg2.N, win2_2.index t = ![t.val % 2, 0] := (by decide +kernel : ∀ t : Fin grid2.N, _)
theorem index2_3 : ∀ t : Fin cfg2.N, win2_3.index t = ![t.val % 2, 0] := (by decide +kernel : ∀ t : Fin grid2.N, _)
theorem index2_4 : ∀ t : Fin cfg2.N, win2_4.index t = ![t.val, 0] := (by decide +kernel : ∀ t : Fin grid2.N, _)

theorem iblk2_0_is (c : Dev nD) {x : ℕ → ℕ → ℝ} (hx : Is2 (n := 4096) (m := 2048) (V c main_v1) x) (t : Fin cfg2.N) :
    Is2 (n := 1024) (m := 2048) (iblk2 V c 0 t) (fun a b => x (t.val * 1024 + a) (b)) := fun y => by
  refine (hx ((win2_0.blk t).view.emb y)).trans ?_
  blk_simp [index2_0]
theorem iblk2_1_is (c : Dev nD) {x : ℕ → ℕ → ℝ} (hx : Is2 (n := 1024) (m := 2048) (V c main_arg2) x) (t : Fin cfg2.N) :
    Is2 (n := 1024) (m := 2048) (iblk2 V c 1 t) (fun a b => x (a) (b)) := fun y => by
  refine (hx ((win2_1.blk t).view.emb y)).trans ?_
  blk_simp [index2_1]
theorem iblk2_2_is (c : Dev nD) {x : ℕ → ℕ → ℝ} (hx : Is2 (n := 2048) (m := 1024) (V c main_v28) x) (t : Fin cfg2.N) :
    Is2 (n := 1024) (m := 1024) (iblk2 V c 2 t) (fun a b => x (t.val % 2 * 1024 + a) (b)) := fun y => by
  refine (hx ((win2_2.blk t).view.emb y)).trans ?_
  blk_simp [index2_2]
theorem iblk2_3_is (c : Dev nD) {x : ℕ → ℕ → ℝ} (hx : Is2 (n := 2048) (m := 1024) (V c main_v30) x) (t : Fin cfg2.N) :
    Is2 (n := 1024) (m := 1024) (iblk2 V c 3 t) (fun a b => x (t.val % 2 * 1024 + a) (b)) := fun y => by
  refine (hx ((win2_3.blk t).view.emb y)).trans ?_
  blk_simp [index2_3]
theorem reg2_4_is (c : Dev nD) {x w co si : ℕ → ℕ → ℝ} (hx : Is2 (n := 4096) (m := 2048) (V c main_v1) x) (hw : Is2 (n := 1024) (m := 2048) (V c main_arg2) w)
    (hc : Is2 (n := 2048) (m := 1024) (V c main_v28) co) (hs : Is2 (n := 2048) (m := 1024) (V c main_v30) si) :
    Is2 (n := 4096) (m := 1024) ((dat2 V c).arrAt 4 cfg2.N) (rope (fun n j => lin 2048 x w n j * kap) (fun n j => co (n % 2048) j) (fun n j => si (n % 2048) j)) := by
  have e : (dat2 V c).arrAt 4 cfg2.N = fun i => (((rope (fun n j => lin 2048 x w n j * kap) (fun n j => co (n % 2048) j) (fun n j => si (n % 2048) j)) (i 0).val (i 1).val : ℝ) : EReal) := by
    refine (dat2 V c).arrAt_eq_of_covers 4 _ (by decide +kernel) fun t hf y => ?_
    blk_simp
    rw [after2_4]
    unfold out2_4
    rw [View.canon_cons_unit_lit _ _ _ (by decide)]
    rw [View.ld_unit_lit _ _ (by decide), View.ld_unit_lit _ _ (by decide), View.ld_unit_lit _ _ (by decide), View.ld_unit_lit _ _ (by decide)]
    refine (k2_is (iblk2_0_is V c hx t) (iblk2_1_is V c hw t) (iblk2_2_is V c hc t) (iblk2_3_is V c hs t) y).trans ?_
    blk_simp [index2_4]
    have hm : ∀ a : ℕ, a < 1024 → (t.val * 1024 + a) % 2048 = t.val % 2 * 1024 + a := fun a ha => by omega
    exact congrArg _ (rope_congr _ (fun j => rfl) (fun j => congrArg (fun z => co z j) (hm _ (y 0).isLt).symm)
      (fun j => congrArg (fun z => si z j) (hm _ (y 0).isLt).symm))
  rw [e]
  exact fun _ => rfl

end Cert.Val

end
-- ==== Proof.Value.Reg3.lean ====
/-
  The arrays left by region 3, the rotary queries.
-/
module

public import proofs.«01_k».proof.Proof.Value.Pay
public import proofs.«01_k».proof.Proof.Value.Congr
public import proofs.«01_k».proof.Proof.KernelIdeal.Region3
public import Idealize.ShloMosaic.Lib.Pipeline.ValueKit.Geometry

@[expose] public section

set_option maxRecDepth 16384

noncomputable section

namespace Cert.Val

open Idealize.ShloMosaic Idealize.ShloMosaic.ValueIdx Idealize.ShloMosaic.TcCoe
open Cert.KernelIdeal Cert.KernelIdeal.Gen Cert.KernelIdeal.Own
open scoped BigOperators

variable (V : (c : Dev nD) → (b : Ref sig .tc) → Buf (Elt Ideal) ((c : Thread nD τ).loc b))

theorem index3_0 : ∀ t : Fin cfg3.N, win3_0.index t = ![t.val, 0] := (by decide +kernel : ∀ t : Fin grid3.N, _)
theorem index3_1 : ∀ t : Fin cfg3.N, win3_1.index t = ![2, 0] := (by decide +kernel : ∀ t : Fin grid3.N, _)
theorem index3_2 : ∀ t : Fin cfg3.N, win3_2.index t = ![t.val % 2, 0] := (by decide +kernel : ∀ t : Fin grid3.N, _)
theorem index3_3 : ∀ t : Fin cfg3.N, win3_3.index t = ![t.val % 2, 0] := (by decide +kernel : ∀ t : Fin grid3.N, _)
theorem index3_4 : ∀ t : Fin cfg3.N, win3_4.index t = ![t.val, 0] := (by decide +kernel : ∀ t : Fin grid3.N, _)

theorem iblk3_0_is (c : Dev nD) {x : ℕ → ℕ → ℝ} (hx : Is2 (n := 4096) (m := 2048) (V c main_v1) x) (t : Fin cfg3.N) :
    Is2 (n := 1024) (m := 2048) (iblk3 V c 0 t) (fun a b => x (t.val * 1024 + a) (b)) := fun y => by
  refine (hx ((win3_0.blk t).view.emb y)).trans ?_
  blk_simp [index3_0]
theorem iblk3_1_is (c : Dev nD) {x : ℕ → ℕ → ℝ} (hx : Is2 (n := 3072) (m := 2048) (V c main_arg3) x) (t : Fin cfg3.N) :
    Is2 (n := 1024) (m := 2048) (iblk3 V c 1 t) (fun a b => x (2 * 1024 + a) (b)) := fun y => by
  refine (hx ((win3_1.blk t).view.emb y)).trans ?_
  blk_simp [index3_1]
theorem iblk3_2_is (c : Dev nD) {x : ℕ → ℕ → ℝ} (hx : Is2 (n := 2048) (m := 1024) (V c main_v28) x) (t : Fin cfg3.N) :
    Is2 (n := 1024) (m := 1024) (iblk3 V c 2 t) (fun a b => x (t.val % 2 * 1024 + a) (b)) := fun y => by
  refine (hx ((win3_2.blk t).view.emb y)).trans ?_
  blk_simp [index3_2]
theorem iblk3_3_is (c : Dev nD) {x : ℕ → ℕ → ℝ} (hx : Is2 (n := 2048) (m := 1024) (V c main_v30) x) (t : Fin cfg3.N) :
    Is2 (n := 1024) (m := 1024) (iblk3 V c 3 t) (fun a b => x (t.val % 2 * 1024 + a) (b)) := fun y => by
  refine (hx ((win3_3.blk t).view.emb y)).trans ?_
  blk_simp [index3_3]
theorem reg3_4_is (c : Dev nD) {x w co si : ℕ → ℕ → ℝ} (hx : Is2 (n := 4096) (m := 2048) (V c main_v1) x) (hw : Is2 (n := 3072) (m := 2048) (V c main_arg3) w)
    (hc : Is2 (n := 2048) (m := 1024) (V c main_v28) co) (hs : Is2 (n := 2048) (m := 1024) (V c main_v30) si) :
    Is2 (n := 4096) (m := 1024) ((dat3 V c).arrAt 4 cfg3.N) (rope (lin 2048 x (fun j d => w (2048 + j) d)) (fun n j => co (n % 2048) j) (fun n j => si (n % 2048) j)) := by
  have e : (dat3 V c).arrAt 4 cfg3.N = fun i => (((rope (lin 2048 x (fun j d => w (2048 + j) d)) (fun n j => co (n % 2048) j) (fun n j => si (n % 2048) j)) (i 0).val (i 1).val : ℝ) : EReal) := by
    refine (dat3 V c).arrAt_eq_of_covers 4 _ (by decide +kernel) fun t hf y => ?_
    blk_simp
    rw [after3_4]
    unfold out3_4
    rw [View.canon_cons_unit_lit _ _ _ (by decide)]
    rw [View.ld_unit_lit _ _ (by decide), View.ld_unit_lit _ _ (by decide), View.ld_unit_lit _ _ (by decide), View.ld_unit_lit _ _ (by decide)]
    refine (k3_is (iblk3_0_is V c hx t) (iblk3_1_is V c hw t) (iblk3_2_is V c hc t) (iblk3_3_is V c hs t) y).trans ?_
    blk_simp [index3_4]
    have hm : ∀ a : ℕ, a < 1024 → (t.val * 1024 + a) % 2048 = t.val % 2 * 1024 + a := fun a ha => by omega
    exact congrArg _ (rope_congr _ (fun j => rfl) (fun j => congrArg (fun z => co z j) (hm _ (y 0).isLt).symm)
      (fun j => congrArg (fun z => si z j) (hm _ (y 0).isLt).symm))
  rw [e]
  exact fun _ => rfl

end Cert.Val

end
-- ==== Proof.Value.Reg5.lean ====
/-
  The arrays left by region 5, the output projection.
-/
module

public import proofs.«01_k».proof.Proof.Value.Pay
public import proofs.«01_k».proof.Proof.KernelIdeal.Region5
public import Idealize.ShloMosaic.Lib.Pipeline.ValueKit.Geometry

@[expose] public section

set_option maxRecDepth 16384

noncomputable section

namespace Cert.Val

open Idealize.ShloMosaic Idealize.ShloMosaic.ValueIdx Idealize.ShloMosaic.TcCoe
open Cert.KernelIdeal Cert.KernelIdeal.Gen Cert.KernelIdeal.Own
open scoped BigOperators

variable (V : (c : Dev nD) → (b : Ref sig .tc) → Buf (Elt Ideal) ((c : Thread nD τ).loc b))

theorem index5_0 : ∀ t : Fin cfg5.N, win5_0.index t = ![0, t.val] := (by decide +kernel : ∀ t : Fin grid5.N, _)
theorem index5_1 : ∀ t : Fin cfg5.N, win5_1.index t = ![0, 0] := (by decide +kernel : ∀ t : Fin grid5.N, _)
theorem index5_2 : ∀ t : Fin cfg5.N, win5_2.index t = ![t.val, 0] := (by decide +kernel : ∀ t : Fin grid5.N, _)

theorem iblk5_0_is (c : Dev nD) {x : ℕ → ℕ → ℝ} (hx : Is2 (n := 2048) (m := 4096) (V c main_v33) x) (t : Fin cfg5.N) :
    Is2 (n := 2048) (m := 512) (iblk5 V c 0 t) (fun a b => x (a) (t.val * 512 + b)) := fun y => by
  refine (hx ((win5_0.blk t).view.emb y)).trans ?_
  blk_simp [index5_0]
theorem iblk5_1_is (c : Dev nD) {x : ℕ → ℕ → EReal} (hx : E2 (n := 2048) (m := 2048) (V c main_arg6) x) (t : Fin cfg5.N) :
    E2 (n := 2048) (m := 2048) (iblk5 V c 1 t) (fun a b => x (a) (b)) := fun y => by
  refine (hx ((win5_1.blk t).view.emb y)).trans ?_
  blk_simp [index5_1]
theorem reg5_2_is (c : Dev nD) {x : ℕ → ℕ → ℝ} {w : ℕ → ℕ → EReal} (hx : Is2 (n := 2048) (m := 4096) (V c main_v33) x) (hw : E2 (n := 2048) (m := 2048) (V c main_arg6) w) :
    E2 (n := 4096) (m := 2048) ((dat5 V c).arrAt 2 cfg5.N) (linE 2048 (fun n j => x j n) w) := by
  have e : (dat5 V c).arrAt 2 cfg5.N = fun i => (linE 2048 (fun n j => x j n) w) (i 0).val (i 1).val := by
    refine (dat5 V c).arrAt_eq_of_covers 2 _ (by decide +kernel) fun t hf y => ?_
    blk_simp
    rw [after5_2]
    unfold out5_2
    rw [View.canon_cons_unit_lit _ _ _ (by decide)]
    rw [View.ld_unit_lit _ _ (by decide), View.ld_unit_lit _ _ (by decide)]
    refine (k5_pay1_is (iblk5_1_is V c hw t) (iblk5_0_is V c hx t) y).trans ?_
    blk_simp [index5_2]
    first | done | rfl | (congr 2)
  rw [e]
  exact fun _ => rfl

end Cert.Val

end
-- ==== Proof.Value.KernelValue.lean ====
/-
  The kernel's result as a real function of its arguments.
-/
module

public import proofs.«01_k».proof.Proof.Value.HostTables
public import proofs.«01_k».proof.Proof.Value.Attn
public import proofs.«01_k».proof.Proof.Value.Reg0
public import proofs.«01_k».proof.Proof.Value.Reg1
public import proofs.«01_k».proof.Proof.Value.Reg2
public import proofs.«01_k».proof.Proof.Value.Reg3
public import proofs.«01_k».proof.Proof.Value.Reg5

@[expose] public section

set_option maxRecDepth 16384

noncomputable section

namespace Cert.Val

open Idealize.ShloMosaic Idealize.ShloMosaic.ValueIdx Idealize.ShloMosaic.TcCoe
open Cert.KernelIdeal Cert.KernelIdeal.Gen Cert.KernelIdeal.Own
open scoped BigOperators
open Finset (range)

/-- A description carried along an equality of arrays. -/
theorem Is2.of_eq {n m : ℕ} {A B : (⟨2, ![n, m]⟩ : Shape).Idx → EReal} {f : ℕ → ℕ → ℝ} (h : Is2 A f) (e : B = A) : Is2 B f := e ▸ h

variable (m : (ℓ : Loc nD τ sig) → Buf (Elt Ideal) ℓ) (ρ : Dev nD → PrngReg) (c : Dev nD)
variable {X wkr wq wuk wuv : ℕ → ℕ → ℝ} {wd wo : ℕ → ℕ → EReal} {nw : ℕ → ℝ}
variable (h0 : Is3 (n := 2) (m := 2048) (k := 2048) (m ((c : Thread nD τ).loc main_arg0)) (fun b s d => X (b * 2048 + s) d)) (h1 : E2 (n := 512) (m := 2048) (m ((c : Thread nD τ).loc main_arg1)) wd)
  (h2 : Is2 (n := 1024) (m := 2048) (m ((c : Thread nD τ).loc main_arg2)) wkr) (h3 : Is2 (n := 3072) (m := 2048) (m ((c : Thread nD τ).loc main_arg3)) wq) (h4 : Is2 (n := 2048) (m := 512) (m ((c : Thread nD τ).loc main_arg4)) wuk)
  (h5 : Is2 (n := 2048) (m := 512) (m ((c : Thread nD τ).loc main_arg5)) wuv) (h6 : E2 (n := 2048) (m := 2048) (m ((c : Thread nD τ).loc main_arg6)) wo) (h7 : Is1 (n := 512) (m ((c : Thread nD τ).loc main_arg7)) nw)
  (h8 : ∀ i, ((m ((c : Thread nD τ).loc main_arg8)) : IVec S_ 32) i = 0#32)

include h0 in
theorem x1_is : Is2 (n := 4096) (m := 2048) (W1 m ρ c (Proc.devRef .tc main_v1)) X := host0_x (W0 m ρ c) h0
include h0 in
theorem x2_is : Is2 (n := 4096) (m := 2048) (W2 m ρ c (Proc.devRef .tc main_v1)) X :=
  (x1_is m ρ c h0).of_eq (W2_of m ρ c main_v1 (by decide +kernel))
include h0 in
theorem x4_is : Is2 (n := 4096) (m := 2048) (W4 m ρ c (Proc.devRef .tc main_v1)) X :=
  (x2_is m ρ c h0).of_eq ((W4_of m ρ c main_v1 (by decide +kernel)).trans (W3_of m ρ c main_v1 (by decide +kernel)))
include h0 in
theorem x5_is : Is2 (n := 4096) (m := 2048) (W5 m ρ c (Proc.devRef .tc main_v1)) X :=
  (x4_is m ρ c h0).of_eq (W5_of m ρ c main_v1 (by decide +kernel))

include h0 h1 h4 h7 in
/-- The scaled keys. -/
theorem ke_is : Is2 (n := 4096) (m := 2048) (W6 m ρ c (Proc.devRef .tc main_v4_0)) (fun n j => lin 512 (cnorm (linE 2048 X wd) nw) wuk n j * kap) :=
  Is2.of_eq (reg0_5_is (V1 m ρ) c (x1_is m ρ c h0) (E2.of_eq (n := 512) (m := 2048) h1 (W1_args m ρ c main_arg1 (by decide))) (host0_n (W0 m ρ c) h7)
    (Is2.of_eq (n := 2048) (m := 512) h4 (W1_args m ρ c main_arg4 (by decide))))
    ((W6_of m ρ c main_v4_0 (by decide +kernel)).trans ((W5_of m ρ c main_v4_0 (by decide +kernel)).trans ((W4_of m ρ c main_v4_0 (by decide +kernel)).trans
      ((W3_of m ρ c main_v4_0 (by decide +kernel)).trans (W2_arr m ρ c 5)))))
include h0 h1 h5 h7 in
/-- The values. -/
theorem ve_is : Is2 (n := 4096) (m := 2048) (W6 m ρ c (Proc.devRef .tc main_v4_1)) (lin 512 (cnorm (linE 2048 X wd) nw) wuv) :=
  Is2.of_eq (reg0_6_is (V1 m ρ) c (x1_is m ρ c h0) (E2.of_eq (n := 512) (m := 2048) h1 (W1_args m ρ c main_arg1 (by decide))) (host0_n (W0 m ρ c) h7)
    (Is2.of_eq (n := 2048) (m := 512) h5 (W1_args m ρ c main_arg5 (by decide))))
    ((W6_of m ρ c main_v4_1 (by decide +kernel)).trans ((W5_of m ρ c main_v4_1 (by decide +kernel)).trans ((W4_of m ρ c main_v4_1 (by decide +kernel)).trans
      ((W3_of m ρ c main_v4_1 (by decide +kernel)).trans (W2_arr m ρ c 6)))))
include h0 h3 in
/-- The queries without positions. -/
theorem qc_is : Is2 (n := 4096) (m := 2048) (W6 m ρ c (Proc.devRef .tc main_v5)) (lin 2048 X wq) :=
  Is2.of_eq (reg1_is (V2 m ρ) c (x2_is m ρ c h0) (Is2.of_eq (n := 3072) (m := 2048) h3 (W2_args m ρ c main_arg3 (by decide))))
    ((W6_of m ρ c main_v5 (by decide +kernel)).trans ((W5_of m ρ c main_v5 (by decide +kernel)).trans ((W4_of m ρ c main_v5 (by decide +kernel)).trans (W3_arr m ρ c 2))))
include h8 in
theorem o3_is (i) : (W3 m ρ c (Proc.devRef .tc main_arg8) : IVec S_ 32) i = 0#32 :=
  (congrFun (W3_args m ρ c main_arg8 (by decide)) i).trans (h8 i)
include h0 h2 h8 in
/-- The rotated keys. -/
theorem kr_is : Is2 (n := 4096) (m := 1024) (W6 m ρ c (Proc.devRef .tc main_v31))
    (fun n j => rope (lin 2048 X wkr) (fun n j => Real.cos (ang (n % 2048) j)) (fun n j => Real.sin (ang (n % 2048) j)) n j * kap) :=
  Is2.of_eq ((reg2_4_is (V4 m ρ) c (x4_is m ρ c h0) (Is2.of_eq (n := 1024) (m := 2048) h2 (W4_args m ρ c main_arg2 (by decide)))
    (host2_cos_is (W3 m ρ c) (o3_is m ρ c h8)) (host2_sin_is (W3 m ρ c) (o3_is m ρ c h8))).congr fun n j _ _ => rope_scale (lin 2048 X wkr) _ _ kap n j)
    ((W6_of m ρ c main_v31 (by decide +kernel)).trans (W5_arr m ρ c 4))
include h0 h3 h8 in
/-- The rotated queries. -/
theorem qr_is : Is2 (n := 4096) (m := 1024) (W6 m ρ c (Proc.devRef .tc main_v32))
    (rope (lin 2048 X (fun j d => wq (2048 + j) d)) (fun n j => Real.cos (ang (n % 2048) j)) (fun n j => Real.sin (ang (n % 2048) j))) :=
  Is2.of_eq (reg3_4_is (V5 m ρ) c (x5_is m ρ c h0) (Is2.of_eq (n := 3072) (m := 2048) h3 (W5_args m ρ c main_arg3 (by decide)))
    (Is2.of_eq (n := 2048) (m := 1024) (host2_cos_is (W3 m ρ c) (o3_is m ρ c h8)) (W5_of m ρ c main_v28 (by decide +kernel)))
    (Is2.of_eq (n := 2048) (m := 1024) (host2_sin_is (W3 m ρ c) (o3_is m ρ c h8)) (W5_of m ρ c main_v30 (by decide +kernel))))
    (W6_arr m ρ c 4)
include h8 in
theorem o6_is (i) : (W6 m ρ c (Proc.devRef .tc main_v2) : IVec S1 32) i = 0#32 :=
  (congrFun ((W6_of m ρ c main_v2 (by decide +kernel)).trans ((W5_of m ρ c main_v2 (by decide +kernel)).trans ((W4_of m ρ c main_v2 (by decide +kernel)).trans
    ((W3_of m ρ c main_v2 (by decide +kernel)).trans (W2_of m ρ c main_v2 (by decide +kernel)))))) i).trans (host0_o (W0 m ρ c) h8 i)

/-- The context the kernel computes, before the output projection. -/
abbrev kctx (X : ℕ → ℕ → ℝ) (wd : ℕ → ℕ → EReal) (wkr wq wuk wuv : ℕ → ℕ → ℝ) (nw : ℕ → ℝ) : ℕ → ℕ → ℝ :=
  ctxT (fun n j => lin 512 (cnorm (linE 2048 X wd) nw) wuk n j * kap)
    (fun n j => rope (lin 2048 X wkr) (fun n j => Real.cos (ang (n % 2048) j)) (fun n j => Real.sin (ang (n % 2048) j)) n j * kap)
    (lin 2048 X wq) (rope (lin 2048 X (fun j d => wq (2048 + j) d)) (fun n j => Real.cos (ang (n % 2048) j)) (fun n j => Real.sin (ang (n % 2048) j)))
    (lin 512 (cnorm (linE 2048 X wd) nw) wuv)

include h0 h1 h2 h3 h4 h5 h7 h8 in
/-- The attention's result. -/
theorem ctx_is : Is2 (n := 2048) (m := 4096) (W7 m ρ c (Proc.devRef .tc main_v33)) (kctx X wd wkr wq wuk wuv nw) :=
  Is2.of_eq (reg4_is (V6 m ρ) c (o6_is m ρ c h8) (ke_is m ρ c h0 h1 h4 h7) (kr_is m ρ c h0 h2 h8) (qc_is m ρ c h0 h3) (qr_is m ρ c h0 h3 h8) (ve_is m ρ c h0 h1 h5 h7))
    (W7_arr m ρ c 6)

include h0 h1 h2 h3 h4 h5 h6 h7 h8 in
/-- The kernel's result. -/
theorem kernel_is : E3 (n := 2) (m := 2048) (k := 2048) (W9 m ρ c (Proc.devRef .tc main_v35))
    (fun b s i => linE 2048 (fun n j => kctx X wd wkr wq wuk wuv nw j n) wo (b * 2048 + s) i) :=
  host6_out (W8 m ρ c) (E2.of_eq (reg5_2_is (V7 m ρ) c (ctx_is m ρ c h0 h1 h2 h3 h4 h5 h7 h8)
    (E2.of_eq (n := 2048) (m := 2048) h6 (W7_args m ρ c main_arg6 (by decide)))) (W8_arr m ρ c 2))

end Cert.Val

end
-- ==== Proof.Value.RefLat.lean ====
/-
  The reference's latent and its normalisation.
-/
module

public import proofs.«01_k».proof.Proof.Value.Rep2
public import proofs.«01_k».proof.Proof.Gen.ReferenceIdeal.Read

@[expose] public section

set_option maxRecDepth 16384

noncomputable section

namespace Cert.Val

open Idealize.ShloMosaic Idealize.ShloMosaic.ValueIdx Idealize.ShloMosaic.TcCoe
open Cert.ReferenceIdeal Cert.ReferenceIdeal.Gen Cert.ReferenceIdeal.Read
open scoped BigOperators
open Finset (range)

variable {x0 : (⟨S2x2048x2048, .f32⟩ : BufTy).Contents (Elt Ideal)} {x1 : (⟨S512x2048, .f32⟩ : BufTy).Contents (Elt Ideal)} {x7 : (⟨S512, .f32⟩ : BufTy).Contents (Elt Ideal)}
variable {X : ℕ → ℕ → ℝ} {wd : ℕ → ℕ → EReal} {nw : ℕ → ℝ}

/-- The latent. -/
theorem v1_is (h0 : Is3 (n := 2) (m := 2048) (k := 2048) x0 (fun b s d => X (b * 2048 + s) d)) (h1 : E2 (n := 512) (m := 2048) x1 wd) :
    E3 (n := 2) (m := 2048) (k := 512) (val_main_v1 (F := Ideal) x0 x1) (fun b s j => linE 2048 X wd (b * 2048 + s) j) := fun i => by
  rw [val_main_v1_apply]
  exact Finset.sum_congr rfl fun k _ => congrArg₂ (· * ·) (h0 _) ((val_main_v0_apply x1 _).trans (h1 _))

/-- The sum of squares. -/
theorem v3_is (h0 : Is3 (n := 2) (m := 2048) (k := 2048) x0 (fun b s d => X (b * 2048 + s) d)) (h1 : E2 (n := 512) (m := 2048) x1 wd) :
    E2 (n := 2) (m := 2048) (val_main_v3 (F := Ideal) x0 x1)
      (fun b s => ∑ l : Fin 512, linE 2048 X wd (b * 2048 + s) l.val * linE 2048 X wd (b * 2048 + s) l.val) := fun i => by
  rw [val_main_v3_apply]
  show Ideal.ofBits .f32 0x00000000#32 + ∑ k : Fin 512, val_main_v1 (F := Ideal) x0 x1 (idx_main_v3 i k) * val_main_v1 (F := Ideal) x0 x1 (idx_main_v3 i k) = _
  rw [lit_zero, EReal.coe_zero, zero_add]
  exact Finset.sum_congr rfl fun k _ => congrArg₂ (· * ·) (v1_is h0 h1 _) (v1_is h0 h1 _)

/-- The reciprocal root mean square. -/
theorem v9_is (h0 : Is3 (n := 2) (m := 2048) (k := 2048) x0 (fun b s d => X (b * 2048 + s) d)) (h1 : E2 (n := 512) (m := 2048) x1 wd) :
    Is3 (n := 2) (m := 2048) (k := 1) (val_main_v9 (F := Ideal) x0 x1) (fun b s _ => rms (linE 2048 X wd) (b * 2048 + s)) := fun i => by
  show Ideal.rsqrt (Ideal.div (val_main_v4 (F := Ideal) x0 x1 i) (Ideal.ofBits .f32 0x44000000#32) + Ideal.ofBits .f32 0x358637BD#32) = _
  rw [val_main_v4_apply, v3_is h0 h1, lit_512, lit_eps]
  exact rms_coe (linE 2048 X wd) ((i 0).val * 2048 + (i 1).val)

/-- The normalised latent. -/
theorem v14_is (h0 : Is3 (n := 2) (m := 2048) (k := 2048) x0 (fun b s d => X (b * 2048 + s) d)) (h1 : E2 (n := 512) (m := 2048) x1 wd) (h7 : Is1 (n := 512) x7 nw) :
    Is3 (n := 2) (m := 2048) (k := 512) (val_main_v14 (F := Ideal) x0 x1 x7) (fun b s j => cnorm (linE 2048 X wd) nw (b * 2048 + s) j) := fun i => by
  have hl : (i 2).val < 512 := (i 2).isLt
  show val_main_v1 (F := Ideal) x0 x1 i * val_main_v10 (F := Ideal) x0 x1 i * val_main_v13 (F := Ideal) x7 i = _
  rw [val_main_v10_apply, val_main_v13_apply, val_main_v12_apply, v1_is h0 h1, v9_is h0 h1, h7]
  exact cnorm_coe (linE 2048 X wd) nw ((i 0).val * 2048 + (i 1).val) hl

end Cert.Val

end
-- ==== Proof.Value.RefQ.lean ====
/-
  The reference's query and key projections.
-/
module

public import proofs.«01_k».proof.Proof.Value.Rep2
public import proofs.«01_k».proof.Proof.Gen.ReferenceIdeal.Read

@[expose] public section

set_option maxRecDepth 16384

noncomputable section

namespace Cert.Val

open Idealize.ShloMosaic Idealize.ShloMosaic.ValueIdx Idealize.ShloMosaic.TcCoe
open Cert.ReferenceIdeal Cert.ReferenceIdeal.Gen Cert.ReferenceIdeal.Read
open scoped BigOperators
open Finset (range)

variable {x0 : (⟨S2x2048x2048, .f32⟩ : BufTy).Contents (Elt Ideal)} {x2 : (⟨S1024x2048, .f32⟩ : BufTy).Contents (Elt Ideal)} {x3 : (⟨S3072x2048, .f32⟩ : BufTy).Contents (Elt Ideal)}
variable {X wkr wq : ℕ → ℕ → ℝ}

/-- The query projection. -/
theorem v20_is (h0 : Is3 (n := 2) (m := 2048) (k := 2048) x0 (fun b s d => X (b * 2048 + s) d)) (h3 : Is2 (n := 3072) (m := 2048) x3 wq) :
    Is3 (n := 2) (m := 2048) (k := 3072) (val_main_v20 (F := Ideal) x0 x3) (fun b s j => lin 2048 X wq (b * 2048 + s) j) := fun i => by
  rw [val_main_v20_apply]
  exact sum_mul_coe (fun k => X ((i 0).val * 2048 + (i 1).val) k) (fun k => wq (i 2).val k) (fun k => h0 _)
    (fun k => (val_main_v19_apply x3 _).trans (h3 _))
/-- The part of the query without positions, per head. -/
theorem v23_is (h0 : Is3 (n := 2) (m := 2048) (k := 2048) x0 (fun b s d => X (b * 2048 + s) d)) (h3 : Is2 (n := 3072) (m := 2048) x3 wq) :
    Is4 (n := 2) (m := 16) (k := 2048) (l := 128) (val_main_v23 (F := Ideal) x0 x3) (fun b h s r => lin 2048 X wq (b * 2048 + s) (h * 128 + r)) := fun i => by
  have i0 : (i 0).val < 2 := (i 0).isLt
  have i1 : (i 1).val < 16 := (i 1).isLt
  have i2 : (i 2).val < 2048 := (i 2).isLt
  have i3 : (i 3).val < 128 := (i 3).isLt
  rw [val_main_v23_apply, val_main_v22_apply, val_main_v21_apply]
  refine (v20_is h0 h3 _).trans ?_
  show ((lin 2048 X wq (((((i 0).val * 2048 + (i 2).val) * 16 + (i 1).val) * 128 + (i 3).val) / 4194304 * 2048 + ((((i 0).val * 2048 + (i 2).val) * 16 + (i 1).val) * 128 + (i 3).val) / 2048 % 2048)
    (((((i 0).val * 2048 + (i 2).val) * 16 + (i 1).val) * 128 + (i 3).val) % 2048) : ℝ) : EReal) = _
  rw [show ((((i 0).val * 2048 + (i 2).val) * 16 + (i 1).val) * 128 + (i 3).val) / 4194304 * 2048 + ((((i 0).val * 2048 + (i 2).val) * 16 + (i 1).val) * 128 + (i 3).val) / 2048 % 2048 = (i 0).val * 2048 + (i 2).val by omega,
    show ((((i 0).val * 2048 + (i 2).val) * 16 + (i 1).val) * 128 + (i 3).val) % 2048 = (i 1).val * 128 + (i 3).val by omega]
/-- The part of the query that is rotated, per head. -/
theorem v26_is (h0 : Is3 (n := 2) (m := 2048) (k := 2048) x0 (fun b s d => X (b * 2048 + s) d)) (h3 : Is2 (n := 3072) (m := 2048) x3 wq) :
    Is4 (n := 2) (m := 16) (k := 2048) (l := 64) (val_main_v26 (F := Ideal) x0 x3) (fun b h s r => lin 2048 X (fun j d => wq (2048 + j) d) (b * 2048 + s) (h * 64 + r)) := fun i => by
  have i0 : (i 0).val < 2 := (i 0).isLt
  have i1 : (i 1).val < 16 := (i 1).isLt
  have i2 : (i 2).val < 2048 := (i 2).isLt
  have i3 : (i 3).val < 64 := (i 3).isLt
  rw [val_main_v26_apply, val_main_v25_apply, val_main_v24_apply]
  refine (v20_is h0 h3 _).trans ?_
  show ((lin 2048 X wq (((((i 0).val * 2048 + (i 2).val) * 16 + (i 1).val) * 64 + (i 3).val) / 2097152 * 2048 + ((((i 0).val * 2048 + (i 2).val) * 16 + (i 1).val) * 64 + (i 3).val) / 1024 % 2048)
    (2048 + ((((i 0).val * 2048 + (i 2).val) * 16 + (i 1).val) * 64 + (i 3).val) % 1024) : ℝ) : EReal) = _
  rw [show ((((i 0).val * 2048 + (i 2).val) * 16 + (i 1).val) * 64 + (i 3).val) / 2097152 * 2048 + ((((i 0).val * 2048 + (i 2).val) * 16 + (i 1).val) * 64 + (i 3).val) / 1024 % 2048 = (i 0).val * 2048 + (i 2).val by omega,
    show ((((i 0).val * 2048 + (i 2).val) * 16 + (i 1).val) * 64 + (i 3).val) % 1024 = (i 1).val * 64 + (i 3).val by omega]
  rfl
/-- The rotary key projection. -/
theorem v16_is (h0 : Is3 (n := 2) (m := 2048) (k := 2048) x0 (fun b s d => X (b * 2048 + s) d)) (h2 : Is2 (n := 1024) (m := 2048) x2 wkr) :
    Is3 (n := 2) (m := 2048) (k := 1024) (val_main_v16 (F := Ideal) x0 x2) (fun b s j => lin 2048 X wkr (b * 2048 + s) j) := fun i => by
  rw [val_main_v16_apply]
  exact sum_mul_coe (fun k => X ((i 0).val * 2048 + (i 1).val) k) (fun k => wkr (i 2).val k) (fun k => h0 _)
    (fun k => (val_main_v15_apply x2 _).trans (h2 _))
/-- The rotary key, per head. -/
theorem v18_is (h0 : Is3 (n := 2) (m := 2048) (k := 2048) x0 (fun b s d => X (b * 2048 + s) d)) (h2 : Is2 (n := 1024) (m := 2048) x2 wkr) :
    Is4 (n := 2) (m := 16) (k := 2048) (l := 64) (val_main_v18 (F := Ideal) x0 x2) (fun b h s r => lin 2048 X wkr (b * 2048 + s) (h * 64 + r)) := fun i => by
  have i0 : (i 0).val < 2 := (i 0).isLt
  have i1 : (i 1).val < 16 := (i 1).isLt
  have i2 : (i 2).val < 2048 := (i 2).isLt
  have i3 : (i 3).val < 64 := (i 3).isLt
  rw [val_main_v18_apply, val_main_v17_apply]
  refine (v16_is h0 h2 _).trans ?_
  show ((lin 2048 X wkr (((((i 0).val * 2048 + (i 2).val) * 16 + (i 1).val) * 64 + (i 3).val) / 2097152 * 2048 + ((((i 0).val * 2048 + (i 2).val) * 16 + (i 1).val) * 64 + (i 3).val) / 1024 % 2048)
    (((((i 0).val * 2048 + (i 2).val) * 16 + (i 1).val) * 64 + (i 3).val) % 1024) : ℝ) : EReal) = _
  rw [show ((((i 0).val * 2048 + (i 2).val) * 16 + (i 1).val) * 64 + (i 3).val) / 2097152 * 2048 + ((((i 0).val * 2048 + (i 2).val) * 16 + (i 1).val) * 64 + (i 3).val) / 1024 % 2048 = (i 0).val * 2048 + (i 2).val by omega,
    show ((((i 0).val * 2048 + (i 2).val) * 16 + (i 1).val) * 64 + (i 3).val) % 1024 = (i 1).val * 64 + (i 3).val by omega]

end Cert.Val

end
-- ==== Proof.Value.RefTables.lean ====
/-
  The reference's rotary tables.
-/
module

public import proofs.«01_k».proof.Proof.Value.Rep2
public import proofs.«01_k».proof.Proof.Gen.ReferenceIdeal.Read

@[expose] public section

set_option maxRecDepth 16384

noncomputable section

namespace Cert.Val

open Idealize.ShloMosaic Idealize.ShloMosaic.ValueIdx Idealize.ShloMosaic.TcCoe
open Cert.ReferenceIdeal Cert.ReferenceIdeal.Gen Cert.ReferenceIdeal.Read
open scoped BigOperators
open Finset (range)

variable {x8 : (⟨S_, .i32⟩ : BufTy).Contents (Elt Ideal)}
/-- A real power of reals. -/
theorem pow_coe (a b : ℝ) : Ideal.pow (a : EReal) (b : EReal) = ((a ^ b : ℝ) : EReal) := rfl

/-- The positions. -/
theorem v30_is (h8 : ∀ i, x8 i = 0#32) : Is1 (n := 2048) (val_main_v30 (F := Ideal) x8) (fun s => (s : ℝ)) := fun i => by
  have hi : (i 0).val < 2048 := (i 0).isLt
  have e : val_main_v29 (F := Ideal) x8 i = BitVec.ofNat 32 (i 0).val := by
    show x8 _ + BitVec.ofNat 32 (i 0).val = _
    rw [h8, BitVec.zero_add]
  show (((val_main_v29 (F := Ideal) x8 i).toInt : ℝ) : EReal) = _
  rw [e, toInt_small (by omega)]
/-- The frequencies. -/
theorem v41_is : Is1 (n := 32) (val_main_v41 (F := Ideal)) (fun i => Real.exp ((i : ℝ) * (-2 * Real.log 10000 / 64))) := fun i => by
  have hi : (i 0).val < 32 := (i 0).isLt
  show Ideal.div (Ideal.ofBits .f32 0x3F800000#32) (Ideal.pow (Ideal.ofBits .f32 0x461C4000#32)
    (Ideal.div (Ideal.ofBits .f32 0x00000000#32 + Ideal.ofBits .f32 0x40000000#32 * (((BitVec.ofNat 32 (i 0).val).toInt : ℝ) : EReal)) (Ideal.ofBits .f32 0x42800000#32))) = _
  rw [toInt_small (by omega), lit_one, lit_10000, lit_zero, lit_two, lit_64, ← EReal.coe_mul, ← EReal.coe_add, div_coe (by norm_num), pow_coe, div_coe (ne_of_gt (Real.rpow_pos_of_pos (by norm_num) _))]
  exact congrArg (fun r : ℝ => (r : EReal)) (freq_eq (i 0).val)
/-- The angles of half a head. -/
theorem v46_is (h8 : ∀ i, x8 i = 0#32) : Is2 (n := 2048) (m := 32) (val_main_v46 (F := Ideal) x8) ang := fun i => by
  have h1 : (i 1).val < 32 := (i 1).isLt
  show val_main_v44 (F := Ideal) x8 i * val_main_v45 (F := Ideal) i = _
  rw [val_main_v44_apply, val_main_v42_apply, val_main_v45_apply, val_main_v43_apply, v30_is h8, v41_is, ← EReal.coe_mul]
  show _ = ((ang (i 0).val (i 1).val : ℝ) : EReal)
  unfold ang
  rw [Nat.mod_eq_of_lt h1]
theorem v47_is (h8 : ∀ i, x8 i = 0#32) : Is2 (n := 2048) (m := 64) (val_main_v47 (F := Ideal) x8) ang :=
  (Is2.concat (φ := .f32) (v46_is h8) (v46_is h8) concatenates_S2048x32_S2048x32_S2048x64_d1).congr fun a b _ hb => by
    split
    · rfl
    · exact ang_mod (by omega)
/-- The cosines. -/
theorem v48_is (h8 : ∀ i, x8 i = 0#32) : Is2 (n := 2048) (m := 64) (val_main_v48 (F := Ideal) x8) (fun s j => Real.cos (ang s j)) := fun i => by
  show Ideal.cos (val_main_v47 (F := Ideal) x8 i) = _
  rw [v47_is h8, Ideal.cos_coe]
/-- The sines. -/
theorem v50_is (h8 : ∀ i, x8 i = 0#32) : Is2 (n := 2048) (m := 64) (val_main_v50 (F := Ideal) x8) (fun s j => Real.sin (ang s j)) := fun i => by
  show Ideal.sin (val_main_v47 (F := Ideal) x8 i) = _
  rw [v47_is h8, Ideal.sin_coe]

/-- The positions. -/
theorem v65_is (h8 : ∀ i, x8 i = 0#32) : Is1 (n := 2048) (val_main_v65 (F := Ideal) x8) (fun s => (s : ℝ)) := fun i => by
  have hi : (i 0).val < 2048 := (i 0).isLt
  have e : val_main_v64 (F := Ideal) x8 i = BitVec.ofNat 32 (i 0).val := by
    show x8 _ + BitVec.ofNat 32 (i 0).val = _
    rw [h8, BitVec.zero_add]
  show (((val_main_v64 (F := Ideal) x8 i).toInt : ℝ) : EReal) = _
  rw [e, toInt_small (by omega)]
/-- The frequencies. -/
theorem v76_is : Is1 (n := 32) (val_main_v76 (F := Ideal)) (fun i => Real.exp ((i : ℝ) * (-2 * Real.log 10000 / 64))) := fun i => by
  have hi : (i 0).val < 32 := (i 0).isLt
  show Ideal.div (Ideal.ofBits .f32 0x3F800000#32) (Ideal.pow (Ideal.ofBits .f32 0x461C4000#32)
    (Ideal.div (Ideal.ofBits .f32 0x00000000#32 + Ideal.ofBits .f32 0x40000000#32 * (((BitVec.ofNat 32 (i 0).val).toInt : ℝ) : EReal)) (Ideal.ofBits .f32 0x42800000#32))) = _
  rw [toInt_small (by omega), lit_one, lit_10000, lit_zero, lit_two, lit_64, ← EReal.coe_mul, ← EReal.coe_add, div_coe (by norm_num), pow_coe, div_coe (ne_of_gt (Real.rpow_pos_of_pos (by norm_num) _))]
  exact congrArg (fun r : ℝ => (r : EReal)) (freq_eq (i 0).val)
/-- The angles of half a head. -/
theorem v81_is (h8 : ∀ i, x8 i = 0#32) : Is2 (n := 2048) (m := 32) (val_main_v81 (F := Ideal) x8) ang := fun i => by
  have h1 : (i 1).val < 32 := (i 1).isLt
  show val_main_v79 (F := Ideal) x8 i * val_main_v80 (F := Ideal) i = _
  rw [val_main_v79_apply, val_main_v77_apply, val_main_v80_apply, val_main_v78_apply, v65_is h8, v76_is, ← EReal.coe_mul]
  show _ = ((ang (i 0).val (i 1).val : ℝ) : EReal)
  unfold ang
  rw [Nat.mod_eq_of_lt h1]
theorem v82_is (h8 : ∀ i, x8 i = 0#32) : Is2 (n := 2048) (m := 64) (val_main_v82 (F := Ideal) x8) ang :=
  (Is2.concat (φ := .f32) (v81_is h8) (v81_is h8) concatenates_S2048x32_S2048x32_S2048x64_d1).congr fun a b _ hb => by
    split
    · rfl
    · exact ang_mod (by omega)
/-- The cosines. -/
theorem v83_is (h8 : ∀ i, x8 i = 0#32) : Is2 (n := 2048) (m := 64) (val_main_v83 (F := Ideal) x8) (fun s j => Real.cos (ang s j)) := fun i => by
  show Ideal.cos (val_main_v82 (F := Ideal) x8 i) = _
  rw [v82_is h8, Ideal.cos_coe]
/-- The sines. -/
theorem v85_is (h8 : ∀ i, x8 i = 0#32) : Is2 (n := 2048) (m := 64) (val_main_v85 (F := Ideal) x8) (fun s j => Real.sin (ang s j)) := fun i => by
  show Ideal.sin (val_main_v82 (F := Ideal) x8 i) = _
  rw [v82_is h8, Ideal.sin_coe]

end Cert.Val

end
-- ==== Proof.Value.RefRope.lean ====
/-
  The reference's rotary step, per head.
-/
module

public import proofs.«01_k».proof.Proof.Value.RefTables

@[expose] public section

set_option maxRecDepth 16384

noncomputable section

namespace Cert.Val

open Idealize.ShloMosaic Idealize.ShloMosaic.ValueIdx Idealize.ShloMosaic.TcCoe
open Cert.ReferenceIdeal Cert.ReferenceIdeal.Gen Cert.ReferenceIdeal.Read
open scoped BigOperators
open Finset (range)

variable {x0 : (⟨S2x2048x2048, .f32⟩ : BufTy).Contents (Elt Ideal)} {x2 : (⟨S1024x2048, .f32⟩ : BufTy).Contents (Elt Ideal)} {x3 : (⟨S3072x2048, .f32⟩ : BufTy).Contents (Elt Ideal)} {x8 : (⟨S_, .i32⟩ : BufTy).Contents (Elt Ideal)}
variable {f : ℕ → ℕ → ℝ}

/-- The rotary combination read within a head. -/
theorem rope_head (f : ℕ → ℕ → ℝ) (b h : ℕ) {s r : ℕ} (hs : s < 2048) (hr : r < 64) :
    rope f (fun n j => Real.cos (ang (n % 2048) j)) (fun n j => Real.sin (ang (n % 2048) j)) (b * 2048 + s) (h * 64 + r)
      = f (b * 2048 + s) (h * 64 + r) * Real.cos (ang s r) + (if r < 32 then -f (b * 2048 + s) (h * 64 + (32 + r)) else f (b * 2048 + s) (h * 64 + (r - 32))) * Real.sin (ang s r) := by
  show f (b * 2048 + s) (h * 64 + r) * Real.cos (ang ((b * 2048 + s) % 2048) (h * 64 + r))
    + rot f (b * 2048 + s) (h * 64 + r) * Real.sin (ang ((b * 2048 + s) % 2048) (h * 64 + r)) = _
  rw [show (b * 2048 + s) % 2048 = s by omega, ang_mod (show (h * 64 + r) % 32 = r % 32 by omega)]
  rw [show rot f (b * 2048 + s) (h * 64 + r) = if (h * 64 + r) % 64 < 32 then -f (b * 2048 + s) (h * 64 + r + 32) else f (b * 2048 + s) (h * 64 + r - 32) from rfl]
  rw [show (h * 64 + r) % 64 = r by omega]
  split
  · rw [show h * 64 + r + 32 = h * 64 + (32 + r) by omega]
  · rw [show h * 64 + r - 32 = h * 64 + (r - 32) by omega]

/-- The half-rotated array, per head. -/
theorem v54_is (hf : Is4 (n := 2) (m := 16) (k := 2048) (l := 64) (val_main_v26 (F := Ideal) x0 x3) (fun b h s r => f (b * 2048 + s) (h * 64 + r))) :
    Is4 (n := 2) (m := 16) (k := 2048) (l := 64) (val_main_v54 (F := Ideal) x0 x3) (fun b h s r => if r < 32 then -f (b * 2048 + s) (h * 64 + (32 + r)) else f (b * 2048 + s) (h * 64 + (r - 32))) :=
  Is4.concat (φ := .f32) (A := val_main_v53 (F := Ideal) x0 x3) (B := val_main_v51 (F := Ideal) x0 x3)
    (f := fun b h s r => -f (b * 2048 + s) (h * 64 + (32 + r))) (g := fun b h s r => f (b * 2048 + s) (h * 64 + r))
    (fun i => by
      show -val_main_v52 (F := Ideal) x0 x3 i = _
      rw [val_main_v52_apply, hf, ← EReal.coe_neg])
    (fun i => by
      rw [val_main_v51_apply]
      exact hf _)
    concatenates_S2x16x2048x32_S2x16x2048x32_S2x16x2048x64_d3
/-- The rotated array, per head. -/
theorem v61_is (hf : Is4 (n := 2) (m := 16) (k := 2048) (l := 64) (val_main_v26 (F := Ideal) x0 x3) (fun b h s r => f (b * 2048 + s) (h * 64 + r))) (h8 : ∀ i, x8 i = 0#32) :
    Is4 (n := 2) (m := 16) (k := 2048) (l := 64) (val_main_v61 (F := Ideal) x0 x3 x8)
      (fun b h s r => rope f (fun n j => Real.cos (ang (n % 2048) j)) (fun n j => Real.sin (ang (n % 2048) j)) (b * 2048 + s) (h * 64 + r)) := fun i => by
  have i2 : (i 2).val < 2048 := (i 2).isLt
  have i3 : (i 3).val < 64 := (i 3).isLt
  show val_main_v26 (F := Ideal) x0 x3 i * val_main_v56 (F := Ideal) x8 i + val_main_v54 (F := Ideal) x0 x3 i * val_main_v59 (F := Ideal) x8 i = _
  rw [val_main_v56_apply, val_main_v55_apply, val_main_v59_apply, val_main_v58_apply, hf, v54_is hf, v48_is h8, v50_is h8,
    ← EReal.coe_mul, ← EReal.coe_mul, ← EReal.coe_add]
  exact congrArg (fun r : ℝ => (r : EReal)) (rope_head f (i 0).val (i 1).val i2 i3).symm

/-- The half-rotated array, per head. -/
theorem v89_is (hf : Is4 (n := 2) (m := 16) (k := 2048) (l := 64) (val_main_v18 (F := Ideal) x0 x2) (fun b h s r => f (b * 2048 + s) (h * 64 + r))) :
    Is4 (n := 2) (m := 16) (k := 2048) (l := 64) (val_main_v89 (F := Ideal) x0 x2) (fun b h s r => if r < 32 then -f (b * 2048 + s) (h * 64 + (32 + r)) else f (b * 2048 + s) (h * 64 + (r - 32))) :=
  Is4.concat (φ := .f32) (A := val_main_v88 (F := Ideal) x0 x2) (B := val_main_v86 (F := Ideal) x0 x2)
    (f := fun b h s r => -f (b * 2048 + s) (h * 64 + (32 + r))) (g := fun b h s r => f (b * 2048 + s) (h * 64 + r))
    (fun i => by
      show -val_main_v87 (F := Ideal) x0 x2 i = _
      rw [val_main_v87_apply, hf, ← EReal.coe_neg])
    (fun i => by
      rw [val_main_v86_apply]
      exact hf _)
    concatenates_S2x16x2048x32_S2x16x2048x32_S2x16x2048x64_d3
/-- The rotated array, per head. -/
theorem v96_is (hf : Is4 (n := 2) (m := 16) (k := 2048) (l := 64) (val_main_v18 (F := Ideal) x0 x2) (fun b h s r => f (b * 2048 + s) (h * 64 + r))) (h8 : ∀ i, x8 i = 0#32) :
    Is4 (n := 2) (m := 16) (k := 2048) (l := 64) (val_main_v96 (F := Ideal) x0 x2 x8)
      (fun b h s r => rope f (fun n j => Real.cos (ang (n % 2048) j)) (fun n j => Real.sin (ang (n % 2048) j)) (b * 2048 + s) (h * 64 + r)) := fun i => by
  have i2 : (i 2).val < 2048 := (i 2).isLt
  have i3 : (i 3).val < 64 := (i 3).isLt
  show val_main_v18 (F := Ideal) x0 x2 i * val_main_v91 (F := Ideal) x8 i + val_main_v89 (F := Ideal) x0 x2 i * val_main_v94 (F := Ideal) x8 i = _
  rw [val_main_v91_apply, val_main_v90_apply, val_main_v94_apply, val_main_v93_apply, hf, v89_is hf, v83_is h8, v85_is h8,
    ← EReal.coe_mul, ← EReal.coe_mul, ← EReal.coe_add]
  exact congrArg (fun r : ℝ => (r : EReal)) (rope_head f (i 0).val (i 1).val i2 i3).symm

end Cert.Val

end
-- ==== Proof.Value.RefScore.lean ====
/-
  The reference's scores.
-/
module

public import proofs.«01_k».proof.Proof.Value.Rep2
public import proofs.«01_k».proof.Proof.Value.Score
public import proofs.«01_k».proof.Proof.Gen.ReferenceIdeal.Read

@[expose] public section

set_option maxRecDepth 16384

noncomputable section

namespace Cert.Val

open Idealize.ShloMosaic Idealize.ShloMosaic.ValueIdx Idealize.ShloMosaic.TcCoe
open Cert.ReferenceIdeal Cert.ReferenceIdeal.Gen Cert.ReferenceIdeal.Read
open scoped BigOperators
open Finset (range)

variable {x0 : (⟨S2x2048x2048, .f32⟩ : BufTy).Contents (Elt Ideal)} {x1 : (⟨S512x2048, .f32⟩ : BufTy).Contents (Elt Ideal)} {x2 : (⟨S1024x2048, .f32⟩ : BufTy).Contents (Elt Ideal)} {x3 : (⟨S3072x2048, .f32⟩ : BufTy).Contents (Elt Ideal)} {x4 : (⟨S2048x512, .f32⟩ : BufTy).Contents (Elt Ideal)} {x7 : (⟨S512, .f32⟩ : BufTy).Contents (Elt Ideal)} {x8 : (⟨S_, .i32⟩ : BufTy).Contents (Elt Ideal)}
variable {cn wuk qc qr kr : ℕ → ℕ → ℝ}

/-- The key weights, per head. -/
theorem v97_is (h4 : Is2 (n := 2048) (m := 512) x4 wuk) : Is3 (n := 16) (m := 128) (k := 512) (val_main_v97 (F := Ideal) x4) (fun h k l => wuk (h * 128 + k) l) := fun i => by
  have i2 : (i 2).val < 512 := (i 2).isLt
  rw [val_main_v97_apply]
  refine (h4 _).trans ?_
  show ((wuk ((((i 0).val * 128 + (i 1).val) * 512 + (i 2).val) / 512) ((((i 0).val * 128 + (i 1).val) * 512 + (i 2).val) % 512) : ℝ) : EReal) = _
  rw [show (((i 0).val * 128 + (i 1).val) * 512 + (i 2).val) / 512 = (i 0).val * 128 + (i 1).val by omega,
    show (((i 0).val * 128 + (i 1).val) * 512 + (i 2).val) % 512 = (i 2).val by omega]
/-- The query carried to the latent space. -/
theorem v98_is (h4 : Is2 (n := 2048) (m := 512) x4 wuk) (hq : Is4 (n := 2) (m := 16) (k := 2048) (l := 128) (val_main_v23 (F := Ideal) x0 x3) (fun b h s r => qc (b * 2048 + s) (h * 128 + r))) :
    Is4 (n := 16) (m := 512) (k := 2) (l := 2048) (val_main_v98 (F := Ideal) x0 x3 x4) (fun h l b s => ∑ k ∈ range 128, wuk (h * 128 + k) l * qc (b * 2048 + s) (h * 128 + k)) := fun i => by
  rw [val_main_v98_apply]
  exact sum_mul_coe (fun k => wuk ((i 0).val * 128 + k) (i 1).val) (fun k => qc ((i 2).val * 2048 + (i 3).val) ((i 0).val * 128 + k))
    (fun k => v97_is h4 _) (fun k => hq _)
/-- The latent part of the scores. -/
theorem v100_is (h4 : Is2 (n := 2048) (m := 512) x4 wuk) (hq : Is4 (n := 2) (m := 16) (k := 2048) (l := 128) (val_main_v23 (F := Ideal) x0 x3) (fun b h s r => qc (b * 2048 + s) (h * 128 + r))) (hn : Is3 (n := 2) (m := 2048) (k := 512) (val_main_v14 (F := Ideal) x0 x1 x7) (fun b s j => cn (b * 2048 + s) j)) :
    Is4 (n := 2) (m := 16) (k := 2048) (l := 2048) (val_main_v100 (F := Ideal) x0 x1 x3 x4 x7)
      (fun b h s t => ∑ l ∈ range 512, (∑ k ∈ range 128, wuk (h * 128 + k) l * qc (b * 2048 + s) (h * 128 + k)) * cn (b * 2048 + t) l) := fun i => by
  rw [val_main_v100_apply]
  exact sum_mul_coe (fun l => ∑ k ∈ range 128, wuk ((i 1).val * 128 + k) l * qc ((i 0).val * 2048 + (i 2).val) ((i 1).val * 128 + k)) (fun l => cn ((i 0).val * 2048 + (i 3).val) l)
    (fun k => (val_main_v99_apply x0 x3 x4 _).trans (v98_is h4 hq _)) (fun k => hn _)
/-- The rotary part of the scores. -/
theorem v101_is (hqr : Is4 (n := 2) (m := 16) (k := 2048) (l := 64) (val_main_v61 (F := Ideal) x0 x3 x8) (fun b h s r => qr (b * 2048 + s) (h * 64 + r))) (hkr : Is4 (n := 2) (m := 16) (k := 2048) (l := 64) (val_main_v96 (F := Ideal) x0 x2 x8) (fun b h s r => kr (b * 2048 + s) (h * 64 + r))) :
    Is4 (n := 2) (m := 16) (k := 2048) (l := 2048) (val_main_v101 (F := Ideal) x0 x2 x3 x8)
      (fun b h s t => ∑ r ∈ range 64, qr (b * 2048 + s) (h * 64 + r) * kr (b * 2048 + t) (h * 64 + r)) := fun i => by
  rw [val_main_v101_apply]
  exact sum_mul_coe (fun r => qr ((i 0).val * 2048 + (i 2).val) ((i 1).val * 64 + r)) (fun r => kr ((i 0).val * 2048 + (i 3).val) ((i 1).val * 64 + r))
    (fun k => hqr _) (fun k => hkr _)
/-- The scores. -/
theorem v105_is (h4 : Is2 (n := 2048) (m := 512) x4 wuk) (hq : Is4 (n := 2) (m := 16) (k := 2048) (l := 128) (val_main_v23 (F := Ideal) x0 x3) (fun b h s r => qc (b * 2048 + s) (h * 128 + r))) (hn : Is3 (n := 2) (m := 2048) (k := 512) (val_main_v14 (F := Ideal) x0 x1 x7) (fun b s j => cn (b * 2048 + s) j)) (hqr : Is4 (n := 2) (m := 16) (k := 2048) (l := 64) (val_main_v61 (F := Ideal) x0 x3 x8) (fun b h s r => qr (b * 2048 + s) (h * 64 + r))) (hkr : Is4 (n := 2) (m := 16) (k := 2048) (l := 64) (val_main_v96 (F := Ideal) x0 x2 x8) (fun b h s r => kr (b * 2048 + s) (h * 64 + r))) :
    Is4 (n := 2) (m := 16) (k := 2048) (l := 2048) (val_main_v105 (F := Ideal) x0 x1 x2 x3 x4 x7 x8)
      (fun b h s t => score cn wuk qc qr kr h (b * 2048 + s) (b * 2048 + t)) := fun i => by
  show (val_main_v100 (F := Ideal) x0 x1 x3 x4 x7 i + val_main_v101 (F := Ideal) x0 x2 x3 x8 i) * Ideal.rsqrt (Ideal.ofBits .f32 0x43400000#32) = _
  rw [v100_is h4 hq hn, v101_is hqr hkr, lit_192, rsqrt_pos (by norm_num), ← EReal.coe_add, ← EReal.coe_mul]
  rfl

end Cert.Val

end
-- ==== Proof.Value.RefSoft.lean ====
/-
  The reference's causal softmax.
-/
module

public import proofs.«01_k».proof.Proof.Value.Rep2
public import proofs.«01_k».proof.Proof.Value.Score
public import proofs.«01_k».proof.Proof.Gen.ReferenceIdeal.Read

@[expose] public section

set_option maxRecDepth 16384

noncomputable section

namespace Cert.Val

open Idealize.ShloMosaic Idealize.ShloMosaic.ValueIdx Idealize.ShloMosaic.TcCoe
open Cert.ReferenceIdeal Cert.ReferenceIdeal.Gen Cert.ReferenceIdeal.Read
open scoped BigOperators
open Finset (range)

variable {x0 : (⟨S2x2048x2048, .f32⟩ : BufTy).Contents (Elt Ideal)} {x1 : (⟨S512x2048, .f32⟩ : BufTy).Contents (Elt Ideal)} {x2 : (⟨S1024x2048, .f32⟩ : BufTy).Contents (Elt Ideal)} {x3 : (⟨S3072x2048, .f32⟩ : BufTy).Contents (Elt Ideal)} {x4 : (⟨S2048x512, .f32⟩ : BufTy).Contents (Elt Ideal)} {x7 : (⟨S512, .f32⟩ : BufTy).Contents (Elt Ideal)} {x8 : (⟨S_, .i32⟩ : BufTy).Contents (Elt Ideal)}
variable {S : ℕ → ℕ → ℕ → ℕ → ℝ} {M : ℕ → ℕ → ℕ → ℝ}

/-- The causal mask. -/
theorem v114_is (h8 : ∀ i, x8 i = 0#32) (i : S2048x2048.Idx) : val_main_v114 (F := Ideal) x8 i = BitVec.ofBool (decide ((i 0).val < (i 1).val)) := by
  have i0 : (i 0).val < 2048 := (i 0).isLt
  have i1 : (i 1).val < 2048 := (i 1).isLt
  have e1 : val_main_v112 (F := Ideal) i = BitVec.ofNat 32 (i 1).val := by
    rw [val_main_v112_apply, val_main_v107_apply]
    rfl
  have e2 : val_main_v113 (F := Ideal) x8 i = BitVec.ofNat 32 (i 0).val := by
    rw [val_main_v113_apply]
    show val_main_v109 (F := Ideal) _ + x8 _ = _
    rw [h8, val_main_v109_apply, BitVec.add_zero]
    rfl
  show IntOp.cmpi .sgt (val_main_v112 (F := Ideal) i) (val_main_v113 (F := Ideal) x8 i) = _
  rw [e1, e2, WordCmp.cmpi_sgt_ofNat (by omega) (by omega)]
/-- The masked scores. -/
theorem v116_is (h8 : ∀ i, x8 i = 0#32) (hs : Is4 (n := 2) (m := 16) (k := 2048) (l := 2048) (val_main_v105 (F := Ideal) x0 x1 x2 x3 x4 x7 x8) S) (i : S2x16x2048x2048.Idx) :
    val_main_v116 (F := Ideal) x0 x1 x2 x3 x4 x7 x8 i = if (i 3).val ≤ (i 2).val then ((S (i 0).val (i 1).val (i 2).val (i 3).val : ℝ) : EReal) else ⊥ := by
  have e : val_main_call0_v2 (F := Ideal) i = (⊥ : EReal) := by
    rw [val_main_call0_v2_apply]
    exact lit_neg_inf
  rw [val_main_v116_apply, val_main_call0_v1_apply, val_main_v115_apply, v114_is h8, WordCmp.select_decide, e, hs]
  show (if (i 2).val < (i 3).val then (⊥ : EReal) else _) = _
  by_cases h : (i 3).val ≤ (i 2).val
  · rw [if_pos h, if_neg (by omega)]
  · rw [if_neg h, if_pos (by omega)]
/-- The largest score of a row is a real number. -/
theorem v117_real (h8 : ∀ i, x8 i = 0#32) (hs : Is4 (n := 2) (m := 16) (k := 2048) (l := 2048) (val_main_v105 (F := Ideal) x0 x1 x2 x3 x4 x7 x8) S) (i : S2x16x2048.Idx) : ∃ r : ℝ, val_main_v117 (F := Ideal) x0 x1 x2 x3 x4 x7 x8 i = (r : EReal) := by
  have hr : S2x16x2048x2048.Reduces [3] S2x16x2048 := by decide
  have e : val_main_v117 (F := Ideal) x0 x1 x2 x3 x4 x7 x8 i
      = Finset.univ.fold (max : EReal → EReal → EReal) ⊥ (val_main_v116 (F := Ideal) x0 x1 x2 x3 x4 x7 x8 ∘ hr.lift i) := by
    unfold val_main_v117
    refine (Host.reduce_eq_fold_single (max : EReal → EReal → EReal) _ _ reducesTo_S2x16x2048x2048_S2x16x2048_d3 hr h_S_ i).trans ?_
    rw [show val_main_cst_14 (F := Ideal) (Shape.Idx.first h_S_) = (⊥ : EReal) from lit_neg_inf]
  rw [e]
  have hlt : Finset.univ.fold (max : EReal → EReal → EReal) ⊥ (val_main_v116 (F := Ideal) x0 x1 x2 x3 x4 x7 x8 ∘ hr.lift i) < ⊤ := by
    rw [Finset.fold_max_lt]
    refine ⟨bot_lt_top, fun k _ => ?_⟩
    show val_main_v116 (F := Ideal) x0 x1 x2 x3 x4 x7 x8 (hr.lift i k) < ⊤
    rw [v116_is h8 hs]
    split
    · exact EReal.coe_lt_top _
    · exact bot_lt_top
  have hgt : ⊥ < Finset.univ.fold (max : EReal → EReal → EReal) ⊥ (val_main_v116 (F := Ideal) x0 x1 x2 x3 x4 x7 x8 ∘ hr.lift i) := by
    rw [Finset.lt_fold_max]
    refine Or.inr ⟨⟨0, by decide⟩, Finset.mem_univ _, ?_⟩
    show ⊥ < val_main_v116 (F := Ideal) x0 x1 x2 x3 x4 x7 x8 (hr.lift i ⟨0, by decide⟩)
    rw [v116_is h8 hs, if_pos (show (hr.lift i ⟨0, by decide⟩ 3).val ≤ (hr.lift i ⟨0, by decide⟩ 2).val from Nat.zero_le _)]
    exact EReal.bot_lt_coe _
  exact ⟨_, (EReal.coe_toReal hlt.ne hgt.ne').symm⟩
/-- The row shift is a real number. -/
theorem v119_real (h8 : ∀ i, x8 i = 0#32) (hs : Is4 (n := 2) (m := 16) (k := 2048) (l := 2048) (val_main_v105 (F := Ideal) x0 x1 x2 x3 x4 x7 x8) S) : ∃ M, Is3 (n := 2) (m := 16) (k := 2048) (val_main_v119 (F := Ideal) x0 x1 x2 x3 x4 x7 x8) M :=
  Is3.of_real fun i => by
    obtain ⟨r, hr⟩ := v117_real h8 hs i
    refine ⟨r, ?_⟩
    rw [val_main_v119_apply, hr]
    show max (Ideal.ofBits .f32 0xFF800000#32) (r : EReal) = _
    rw [lit_neg_inf]
    exact max_eq_right bot_le
/-- The exponentials. -/
theorem v123_is (h8 : ∀ i, x8 i = 0#32) (hs : Is4 (n := 2) (m := 16) (k := 2048) (l := 2048) (val_main_v105 (F := Ideal) x0 x1 x2 x3 x4 x7 x8) S) (hM : Is3 (n := 2) (m := 16) (k := 2048) (val_main_v119 (F := Ideal) x0 x1 x2 x3 x4 x7 x8) M) :
    Is4 (n := 2) (m := 16) (k := 2048) (l := 2048) (val_main_v123 (F := Ideal) x0 x1 x2 x3 x4 x7 x8) (fun b h s t => ecaus (S b h s t) (M b h s) t s) := fun i => by
  show Ideal.exp (val_main_v116 (F := Ideal) x0 x1 x2 x3 x4 x7 x8 i - val_main_v121 (F := Ideal) x0 x1 x2 x3 x4 x7 x8 i) = ((ecaus _ _ _ _ : ℝ) : EReal)
  rw [val_main_v121_apply, val_main_v120_apply, v116_is h8 hs, hM]
  unfold ecaus
  by_cases h : (i 3).val ≤ (i 2).val
  · rw [if_pos h, if_pos h, ← EReal.coe_sub, Ideal.exp_coe]
  · rw [if_neg h, if_neg h, EReal.bot_sub, Ideal.exp_bot, EReal.coe_zero]
/-- Their sums. -/
theorem v124_is (h8 : ∀ i, x8 i = 0#32) (hs : Is4 (n := 2) (m := 16) (k := 2048) (l := 2048) (val_main_v105 (F := Ideal) x0 x1 x2 x3 x4 x7 x8) S) (hM : Is3 (n := 2) (m := 16) (k := 2048) (val_main_v119 (F := Ideal) x0 x1 x2 x3 x4 x7 x8) M) :
    Is3 (n := 2) (m := 16) (k := 2048) (val_main_v124 (F := Ideal) x0 x1 x2 x3 x4 x7 x8) (fun b h s => ∑ t ∈ range 2048, ecaus (S b h s t) (M b h s) t s) := fun i => by
  rw [val_main_v124_apply]
  show Ideal.ofBits .f32 0x00000000#32 + _ = _
  rw [lit_zero, EReal.coe_zero, zero_add]
  exact sum_fin_coe (fun t => ecaus (S (i 0).val (i 1).val (i 2).val t) (M (i 0).val (i 1).val (i 2).val) t (i 2).val) (fun k => v123_is h8 hs hM _)
/-- The attention weights. -/
theorem v127_is (h8 : ∀ i, x8 i = 0#32) (hs : Is4 (n := 2) (m := 16) (k := 2048) (l := 2048) (val_main_v105 (F := Ideal) x0 x1 x2 x3 x4 x7 x8) S) (hM : Is3 (n := 2) (m := 16) (k := 2048) (val_main_v119 (F := Ideal) x0 x1 x2 x3 x4 x7 x8) M) :
    Is4 (n := 2) (m := 16) (k := 2048) (l := 2048) (val_main_v127 (F := Ideal) x0 x1 x2 x3 x4 x7 x8)
      (fun b h s t => ecaus (S b h s t) (M b h s) t s / ∑ u ∈ range 2048, ecaus (S b h s u) (M b h s) u s) := fun i => by
  show Ideal.div (val_main_v123 (F := Ideal) x0 x1 x2 x3 x4 x7 x8 i) (val_main_v126 (F := Ideal) x0 x1 x2 x3 x4 x7 x8 i) = _
  rw [val_main_v126_apply, val_main_v125_apply, v123_is h8 hs hM, v124_is h8 hs hM]
  exact div_coe (ecaus_sum_pos (S (i 0).val (i 1).val (i 2).val) (M (i 0).val (i 1).val (i 2).val) (i 2).val).ne'

end Cert.Val

end
-- ==== Proof.Value.RefOut.lean ====
/-
  The reference's output from its attention weights.
-/
module

public import proofs.«01_k».proof.Proof.Value.Rep2
public import proofs.«01_k».proof.Proof.Gen.ReferenceIdeal.Read

@[expose] public section

set_option maxRecDepth 16384

noncomputable section

namespace Cert.Val

open Idealize.ShloMosaic Idealize.ShloMosaic.ValueIdx Idealize.ShloMosaic.TcCoe
open Cert.ReferenceIdeal Cert.ReferenceIdeal.Gen Cert.ReferenceIdeal.Read
open scoped BigOperators
open Finset (range)

variable {x0 : (⟨S2x2048x2048, .f32⟩ : BufTy).Contents (Elt Ideal)} {x1 : (⟨S512x2048, .f32⟩ : BufTy).Contents (Elt Ideal)} {x2 : (⟨S1024x2048, .f32⟩ : BufTy).Contents (Elt Ideal)} {x3 : (⟨S3072x2048, .f32⟩ : BufTy).Contents (Elt Ideal)} {x4 : (⟨S2048x512, .f32⟩ : BufTy).Contents (Elt Ideal)} {x5 : (⟨S2048x512, .f32⟩ : BufTy).Contents (Elt Ideal)} {x6 : (⟨S2048x2048, .f32⟩ : BufTy).Contents (Elt Ideal)} {x7 : (⟨S512, .f32⟩ : BufTy).Contents (Elt Ideal)} {x8 : (⟨S_, .i32⟩ : BufTy).Contents (Elt Ideal)}
variable {p : ℕ → ℕ → ℕ → ℕ → ℝ} {cn wuv : ℕ → ℕ → ℝ} {wo : ℕ → ℕ → EReal}

/-- The attended latent. -/
theorem v128_is (hp : Is4 (n := 2) (m := 16) (k := 2048) (l := 2048) (val_main_v127 (F := Ideal) x0 x1 x2 x3 x4 x7 x8) p) (hn : Is3 (n := 2) (m := 2048) (k := 512) (val_main_v14 (F := Ideal) x0 x1 x7) (fun b s j => cn (b * 2048 + s) j)) :
    Is4 (n := 2) (m := 16) (k := 2048) (l := 512) (val_main_v128 (F := Ideal) x0 x1 x2 x3 x4 x7 x8) (fun b h s l => ∑ t ∈ range 2048, p b h s t * cn (b * 2048 + t) l) := fun i => by
  rw [val_main_v128_apply]
  exact sum_mul_coe (fun t => p (i 0).val (i 1).val (i 2).val t) (fun t => cn ((i 0).val * 2048 + t) (i 3).val) (fun k => hp _) (fun k => hn _)
/-- The value weights, per head. -/
theorem v129_is (h5 : Is2 (n := 2048) (m := 512) x5 wuv) : Is3 (n := 16) (m := 128) (k := 512) (val_main_v129 (F := Ideal) x5) (fun h k l => wuv (h * 128 + k) l) := fun i => by
  have i2 : (i 2).val < 512 := (i 2).isLt
  rw [val_main_v129_apply]
  refine (h5 _).trans ?_
  show ((wuv ((((i 0).val * 128 + (i 1).val) * 512 + (i 2).val) / 512) ((((i 0).val * 128 + (i 1).val) * 512 + (i 2).val) % 512) : ℝ) : EReal) = _
  rw [show (((i 0).val * 128 + (i 1).val) * 512 + (i 2).val) / 512 = (i 0).val * 128 + (i 1).val by omega,
    show (((i 0).val * 128 + (i 1).val) * 512 + (i 2).val) % 512 = (i 2).val by omega]
/-- The context, per head. -/
theorem v130_is (h5 : Is2 (n := 2048) (m := 512) x5 wuv) (hp : Is4 (n := 2) (m := 16) (k := 2048) (l := 2048) (val_main_v127 (F := Ideal) x0 x1 x2 x3 x4 x7 x8) p) (hn : Is3 (n := 2) (m := 2048) (k := 512) (val_main_v14 (F := Ideal) x0 x1 x7) (fun b s j => cn (b * 2048 + s) j)) :
    Is4 (n := 16) (m := 128) (k := 2) (l := 2048) (val_main_v130 (F := Ideal) x0 x1 x2 x3 x4 x5 x7 x8)
      (fun h d b s => ∑ l ∈ range 512, wuv (h * 128 + d) l * ∑ t ∈ range 2048, p b h s t * cn (b * 2048 + t) l) := fun i => by
  rw [val_main_v130_apply]
  exact sum_mul_coe (fun l => wuv ((i 0).val * 128 + (i 1).val) l) (fun l => ∑ t ∈ range 2048, p (i 2).val (i 0).val (i 3).val t * cn ((i 2).val * 2048 + t) l)
    (fun k => v129_is h5 _) (fun k => v128_is hp hn _)
/-- The context, by row. -/
theorem v133_is (h5 : Is2 (n := 2048) (m := 512) x5 wuv) (hp : Is4 (n := 2) (m := 16) (k := 2048) (l := 2048) (val_main_v127 (F := Ideal) x0 x1 x2 x3 x4 x7 x8) p) (hn : Is3 (n := 2) (m := 2048) (k := 512) (val_main_v14 (F := Ideal) x0 x1 x7) (fun b s j => cn (b * 2048 + s) j)) :
    Is3 (n := 2) (m := 2048) (k := 2048) (val_main_v133 (F := Ideal) x0 x1 x2 x3 x4 x5 x7 x8)
      (fun b s j => ∑ l ∈ range 512, wuv j l * ∑ t ∈ range 2048, p b (j / 128) s t * cn (b * 2048 + t) l) := fun i => by
  have i0 : (i 0).val < 2 := (i 0).isLt
  have i1 : (i 1).val < 2048 := (i 1).isLt
  have i2 : (i 2).val < 2048 := (i 2).isLt
  have e0 : (((i 0).val * 2048 + (i 1).val) * 2048 + (i 2).val) / 4194304 = (i 0).val := by omega
  have e1 : (((i 0).val * 2048 + (i 1).val) * 2048 + (i 2).val) / 2048 % 2048 = (i 1).val := by omega
  have e2 : (((i 0).val * 2048 + (i 1).val) * 2048 + (i 2).val) / 128 % 16 = (i 2).val / 128 := by omega
  have e3 : (((i 0).val * 2048 + (i 1).val) * 2048 + (i 2).val) % 128 = (i 2).val % 128 := by omega
  rw [val_main_v133_apply, val_main_v132_apply, val_main_v131_apply]
  refine (v130_is h5 hp hn _).trans ?_
  show ((∑ l ∈ range 512, wuv ((((i 0).val * 2048 + (i 1).val) * 2048 + (i 2).val) / 128 % 16 * 128 + (((i 0).val * 2048 + (i 1).val) * 2048 + (i 2).val) % 128) l
    * ∑ t ∈ range 2048, p ((((i 0).val * 2048 + (i 1).val) * 2048 + (i 2).val) / 4194304) ((((i 0).val * 2048 + (i 1).val) * 2048 + (i 2).val) / 128 % 16)
      ((((i 0).val * 2048 + (i 1).val) * 2048 + (i 2).val) / 2048 % 2048) t * cn ((((i 0).val * 2048 + (i 1).val) * 2048 + (i 2).val) / 4194304 * 2048 + t) l : ℝ) : EReal) = _
  rw [e0, e1, e2, e3, show (i 2).val / 128 * 128 + (i 2).val % 128 = (i 2).val by omega]
/-- The output. -/
theorem v135_is (h5 : Is2 (n := 2048) (m := 512) x5 wuv) (h6 : E2 (n := 2048) (m := 2048) x6 wo) (hp : Is4 (n := 2) (m := 16) (k := 2048) (l := 2048) (val_main_v127 (F := Ideal) x0 x1 x2 x3 x4 x7 x8) p) (hn : Is3 (n := 2) (m := 2048) (k := 512) (val_main_v14 (F := Ideal) x0 x1 x7) (fun b s j => cn (b * 2048 + s) j)) :
    E3 (n := 2) (m := 2048) (k := 2048) (val_main_v135 (F := Ideal) x0 x1 x2 x3 x4 x5 x6 x7 x8)
      (fun b s i => linE 2048 (fun n j => ∑ l ∈ range 512, wuv j l * ∑ t ∈ range 2048, p (n / 2048) (j / 128) (n % 2048) t * cn (n / 2048 * 2048 + t) l) wo (b * 2048 + s) i) := fun i => by
  have i1 : (i 1).val < 2048 := (i 1).isLt
  rw [val_main_v135_apply]
  refine Finset.sum_congr rfl fun k _ => congrArg₂ (· * ·) ((v133_is h5 hp hn _).trans ?_) ((val_main_v134_apply x6 _).trans (h6 _))
  show ((∑ l ∈ range 512, wuv k.val l * ∑ t ∈ range 2048, p (i 0).val (k.val / 128) (i 1).val t * cn ((i 0).val * 2048 + t) l : ℝ) : EReal)
    = ((∑ l ∈ range 512, wuv k.val l * ∑ t ∈ range 2048, p (((i 0).val * 2048 + (i 1).val) / 2048) (k.val / 128) (((i 0).val * 2048 + (i 1).val) % 2048) t
        * cn (((i 0).val * 2048 + (i 1).val) / 2048 * 2048 + t) l : ℝ) : EReal)
  rw [show ((i 0).val * 2048 + (i 1).val) / 2048 = (i 0).val by omega, show ((i 0).val * 2048 + (i 1).val) % 2048 = (i 1).val by omega]

end Cert.Val

end
-- ==== Proof.Value.RefValue.lean ====
/-
  The reference's result as a real function of its arguments.
-/
module

public import proofs.«01_k».proof.Proof.Value.RefLat
public import proofs.«01_k».proof.Proof.Value.RefQ
public import proofs.«01_k».proof.Proof.Value.RefRope
public import proofs.«01_k».proof.Proof.Value.RefScore
public import proofs.«01_k».proof.Proof.Value.RefSoft
public import proofs.«01_k».proof.Proof.Value.RefOut

@[expose] public section

set_option maxRecDepth 16384

noncomputable section

namespace Cert.Val

open Idealize.ShloMosaic Idealize.ShloMosaic.ValueIdx Idealize.ShloMosaic.TcCoe
open Cert.ReferenceIdeal Cert.ReferenceIdeal.Gen Cert.ReferenceIdeal.Read
open scoped BigOperators
open Finset (range)

variable {x0 : (⟨S2x2048x2048, .f32⟩ : BufTy).Contents (Elt Ideal)} {x1 : (⟨S512x2048, .f32⟩ : BufTy).Contents (Elt Ideal)} {x2 : (⟨S1024x2048, .f32⟩ : BufTy).Contents (Elt Ideal)} {x3 : (⟨S3072x2048, .f32⟩ : BufTy).Contents (Elt Ideal)} {x4 : (⟨S2048x512, .f32⟩ : BufTy).Contents (Elt Ideal)} {x5 : (⟨S2048x512, .f32⟩ : BufTy).Contents (Elt Ideal)} {x6 : (⟨S2048x2048, .f32⟩ : BufTy).Contents (Elt Ideal)} {x7 : (⟨S512, .f32⟩ : BufTy).Contents (Elt Ideal)} {x8 : (⟨S_, .i32⟩ : BufTy).Contents (Elt Ideal)}
variable {X wkr wq wuk wuv : ℕ → ℕ → ℝ} {wd wo : ℕ → ℕ → EReal} {nw : ℕ → ℝ}

/-- The reference's result. -/
theorem reference_is (h0 : Is3 (n := 2) (m := 2048) (k := 2048) x0 (fun b s d => X (b * 2048 + s) d)) (h1 : E2 (n := 512) (m := 2048) x1 wd) (h2 : Is2 (n := 1024) (m := 2048) x2 wkr) (h3 : Is2 (n := 3072) (m := 2048) x3 wq) (h4 : Is2 (n := 2048) (m := 512) x4 wuk) (h5 : Is2 (n := 2048) (m := 512) x5 wuv) (h6 : E2 (n := 2048) (m := 2048) x6 wo) (h7 : Is1 (n := 512) x7 nw) (h8 : ∀ i, x8 i = 0#32) :
    ∃ M : ℕ → ℕ → ℕ → ℝ, E3 (n := 2) (m := 2048) (k := 2048) (val_main_v135 (F := Ideal) x0 x1 x2 x3 x4 x5 x6 x7 x8)
      (fun b s i => linE 2048 (fun n j => ∑ l ∈ range 512, wuv j l * ∑ t ∈ range 2048,
        ecaus (score (cnorm (linE 2048 X wd) nw) wuk (lin 2048 X wq) (rope (lin 2048 X (fun j d => wq (2048 + j) d)) (fun n j => Real.cos (ang (n % 2048) j)) (fun n j => Real.sin (ang (n % 2048) j))) (rope (lin 2048 X wkr) (fun n j => Real.cos (ang (n % 2048) j)) (fun n j => Real.sin (ang (n % 2048) j))) (j / 128) (n / 2048 * 2048 + n % 2048) (n / 2048 * 2048 + t)) (M (n / 2048) (j / 128) (n % 2048)) t (n % 2048)
          / (∑ u ∈ range 2048, ecaus (score (cnorm (linE 2048 X wd) nw) wuk (lin 2048 X wq) (rope (lin 2048 X (fun j d => wq (2048 + j) d)) (fun n j => Real.cos (ang (n % 2048) j)) (fun n j => Real.sin (ang (n % 2048) j))) (rope (lin 2048 X wkr) (fun n j => Real.cos (ang (n % 2048) j)) (fun n j => Real.sin (ang (n % 2048) j))) (j / 128) (n / 2048 * 2048 + n % 2048) (n / 2048 * 2048 + u)) (M (n / 2048) (j / 128) (n % 2048)) u (n % 2048))
          * cnorm (linE 2048 X wd) nw (n / 2048 * 2048 + t) l) wo (b * 2048 + s) i) := by
  have hn := v14_is h0 h1 h7
  have hs := v105_is (cn := cnorm (linE 2048 X wd) nw) (qc := lin 2048 X wq)
    (qr := rope (lin 2048 X (fun j d => wq (2048 + j) d)) (fun n j => Real.cos (ang (n % 2048) j)) (fun n j => Real.sin (ang (n % 2048) j))) (kr := rope (lin 2048 X wkr) (fun n j => Real.cos (ang (n % 2048) j)) (fun n j => Real.sin (ang (n % 2048) j)))
    h4 (v23_is h0 h3) hn (v61_is (f := lin 2048 X (fun j d => wq (2048 + j) d)) (v26_is h0 h3) h8) (v96_is (f := lin 2048 X wkr) (v18_is h0 h2) h8)
  obtain ⟨M, hM⟩ := v119_real h8 hs
  exact ⟨M, v135_is (cn := cnorm (linE 2048 X wd) nw)
    (p := fun b h s t => ecaus (score (cnorm (linE 2048 X wd) nw) wuk (lin 2048 X wq) (rope (lin 2048 X (fun j d => wq (2048 + j) d)) (fun n j => Real.cos (ang (n % 2048) j)) (fun n j => Real.sin (ang (n % 2048) j))) (rope (lin 2048 X wkr) (fun n j => Real.cos (ang (n % 2048) j)) (fun n j => Real.sin (ang (n % 2048) j))) h (b * 2048 + s) (b * 2048 + t)) (M b h s) t s
      / ∑ u ∈ range 2048, ecaus (score (cnorm (linE 2048 X wd) nw) wuk (lin 2048 X wq) (rope (lin 2048 X (fun j d => wq (2048 + j) d)) (fun n j => Real.cos (ang (n % 2048) j)) (fun n j => Real.sin (ang (n % 2048) j))) (rope (lin 2048 X wkr) (fun n j => Real.cos (ang (n % 2048) j)) (fun n j => Real.sin (ang (n % 2048) j))) h (b * 2048 + s) (b * 2048 + u)) (M b h s) u s)
    h5 h6 (v127_is h8 hs hM) hn⟩

end Cert.Val

end
-- ==== Proof.Value.Algebraic.lean ====
/-
  The idealized kernel and the reference return the same array of real numbers.
-/
module

public import proofs.«01_k».proof.Defs
public import proofs.«01_k».proof.Proof.Value.KernelValue
public import proofs.«01_k».proof.Proof.Value.RefValue
public import proofs.«01_k».proof.Proof.Value.Pre

@[expose] public section

set_option maxRecDepth 16384

noncomputable section

namespace Cert.Val

open Idealize.ShloMosaic Idealize.ShloMosaic.ValueIdx Idealize.ShloMosaic.TcCoe
open Idealize.SL.Sem
open scoped BigOperators
open Finset (range)

/-- Two arrays with the same elements are one array. -/
theorem E3.ext {n m k : ℕ} {A B : (⟨3, ![n, m, k]⟩ : Shape).Idx → EReal} {f g : ℕ → ℕ → ℕ → EReal} (hA : E3 A f) (hB : E3 B g)
    (h : ∀ a b d, f a b d = g a b d) : A = B :=
  funext fun i => (hA i).trans ((h _ _ _).trans (hB i).symm)

/-- The kernel's array is the reference's, under the precondition. -/
theorem same [Cert.Pre_finite_inputs.Facts] (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hp : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) = fun _ => 1#1) :
    (Cert.KernelIdeal.Own.W9 m ρ c (Proc.devRef .tc Cert.KernelIdeal.main_v35) : FVec Ideal Cert.ReferenceIdeal.S2x2048x2048 .f32)
      = Cert.ReferenceIdeal.Read.val_main_v135 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  obtain ⟨p0, p2, p3, p4, p5, p7, h8⟩ := pre_read _ _ _ _ _ _ _ _ _ hp
  obtain ⟨f, hf⟩ := Is3.of_real (n := 2) (m := 2048) (k := 2048) p0
  obtain ⟨wd, h1⟩ := E2.exists (n := 512) (m := 2048) (m ((c.tc : Thread Cert.KernelIdeal.nD Cert.KernelIdeal.τ).loc Cert.KernelIdeal.main_arg1))
  obtain ⟨wkr, h2⟩ := Is2.of_real (n := 1024) (m := 2048) p2
  obtain ⟨wq, h3⟩ := Is2.of_real (n := 3072) (m := 2048) p3
  obtain ⟨wuk, h4⟩ := Is2.of_real (n := 2048) (m := 512) p4
  obtain ⟨wuv, h5⟩ := Is2.of_real (n := 2048) (m := 512) p5
  obtain ⟨wo, h6⟩ := E2.exists (n := 2048) (m := 2048) (m ((c.tc : Thread Cert.KernelIdeal.nD Cert.KernelIdeal.τ).loc Cert.KernelIdeal.main_arg6))
  obtain ⟨nw, h7⟩ := Is1.of_real (n := 512) p7
  have h0 : Is3 (n := 2) (m := 2048) (k := 2048) (m ((c.tc : Thread Cert.KernelIdeal.nD Cert.KernelIdeal.τ).loc Cert.KernelIdeal.main_arg0)) (fun b s d => (fun n d => f (n / 2048) (n % 2048) d) (b * 2048 + s) d) :=
    fun i => (hf i).trans (congrArg (fun r : ℝ => (r : EReal)) (by
      have hs : (i 1).val < 2048 := (i 1).isLt
      show f (i 0).val (i 1).val (i 2).val = f (((i 0).val * 2048 + (i 1).val) / 2048) (((i 0).val * 2048 + (i 1).val) % 2048) (i 2).val
      rw [show ((i 0).val * 2048 + (i 1).val) / 2048 = (i 0).val by omega, show ((i 0).val * 2048 + (i 1).val) % 2048 = (i 1).val by omega]))
  obtain ⟨M, hR⟩ := reference_is (X := fun n d => f (n / 2048) (n % 2048) d) h0 h1 h2 h3 h4 h5 h6 h7 h8
  refine E3.ext (kernel_is m ρ c (X := fun n d => f (n / 2048) (n % 2048) d) h0 h1 h2 h3 h4 h5 h6 h7 h8) hR fun b s i => ?_
  refine congrFun (congrFun (congrArg (fun z => linE 2048 z wo) (funext fun n => funext fun j => ?_)) (b * 2048 + s)) i
  refine (ctx_eq _ _ _ _ _ _ (M (n / 2048) (j / 128) (n % 2048)) j n).trans ?_
  rw [show n / 2048 * 2048 + n % 2048 = n by omega]

/-- The algebraic claim. -/
theorem algebraic : @Cert.algebraic_KernelIdeal_ReferenceIdeal_pre_finite_inputs Cert.KernelIdeal.Gen.facts Cert.ReferenceIdeal.Gen.facts preFacts := by
  intro m g m' g' hp ha
  refine ⟨fun c => Cert.KernelIdeal.Own.W9 m g c (Proc.devRef .tc Cert.KernelIdeal.main_v35),
    (θ_run _ _ _).mono (fun _ h => h.1) (Cert.KernelIdeal.Own.run m g),
    (θ_run _ _ _).mono (fun r h c => ⟨(h c).1.trans ?_, (h c).2⟩) (Cert.ReferenceIdeal.Value.run m' g')⟩
  obtain ⟨e0, e1, e2, e3, e4, e5, e6, e7, e8⟩ := ha c
  rw [Cert.ReferenceIdeal.Read.val_main_v135_eq, e0, e1, e2, e3, e4, e5, e6, e7, e8]
  exact (@same preFacts m g c (hp c)).symm

end Cert.Val

end
-- ==== Proof.lean ====
/-
  The certificate's claim, assembled.
-/
module

public import proofs.«01_k».proof.Defs
public import proofs.«01_k».proof.Proof.Frames
public import proofs.«01_k».proof.Proof.Value.Algebraic
public import proofs.«01_k».proof.Proof.Gen.ReferenceIdeal.Run
public import proofs.«01_k».proof.Proof.Gen.ReferenceIdeal.Read

@[expose] public section

noncomputable section

namespace Cert.Proof

/-- The claim of the certificate. -/
theorem claim : Cert.Claim :=
  ⟨Cert.Kernel.Gen.facts, Cert.KernelIdeal.Gen.facts, Cert.ReferenceIdeal.Gen.facts, Cert.Val.preFacts,
    frame_kernel, frame_kernelIdeal, frame_kernelIdeal_pre, frame_referenceIdeal, frame_referenceIdeal_pre, preserves, Cert.Val.algebraic⟩

end Cert.Proof

end
